-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S1024x1024 : Shape := ⟨2, ![1024, 1024]⟩
abbrev S32x1024 : Shape := ⟨2, ![32, 1024]⟩
abbrev S32x32x32 : Shape := ⟨3, ![32, 32, 32]⟩
abbrev S32 : Shape := ⟨1, ![32]⟩
abbrev S_ : Shape := ⟨0, ![]⟩
abbrev S32x32 : Shape := ⟨2, ![32, 32]⟩
abbrev S1x32x32 : Shape := ⟨3, ![1, 32, 32]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S1024x32, .f32⟩
  | .hbm, ⟨1, _⟩ => ⟨S1024x1024, .f32⟩
  | .hbm, ⟨2, _⟩ => ⟨S32x1024, .f32⟩
  | .local _ .vmem, ⟨0, _⟩ => ⟨S1024x32, .f32⟩
  | .local _ .vmem, ⟨1, _⟩ => ⟨S32x1024, .f32⟩
  | .local _ .vmem, ⟨2, _⟩ => ⟨S1024x1024, .f32⟩
  | .local _ .vmem, ⟨3, _⟩ => ⟨S32x32x32, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.muli v2 c32_i32_0
  let v4 : Index := Scalar.indexCast v3
  let c0 : Index := 0#32
  ![v4.toNat, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v7 : Index := Scalar.indexCast v2
  let c0_1 : Index := 0#32
  let c0_2 : Index := 0#32
  ![v7.toNat, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v12 : BitVec 32 := Scalar.addi v2 c1_i32_3
  let c32_i32_4 : BitVec 32 := 32#32
  let v13 : BitVec 32 := Scalar.remsi v12 c32_i32_4
  let c1_i32_6 : BitVec 32 := 1#32
  let v14 : BitVec 32 := Scalar.muli v13 c1_i32_6
  let v15 : BitVec 32 := Scalar.addi c0_i32 v14
  v15.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v16 : BitVec 32 := Scalar.addi v2 c2_i32
  let c32_i32_7 : BitVec 32 := 32#32
  let v17 : BitVec 32 := Scalar.remsi v16 c32_i32_7
  let c1_i32_9 : BitVec 32 := 1#32
  let v18 : BitVec 32 := Scalar.muli v17 c1_i32_9
  let v19 : BitVec 32 := Scalar.addi c0_i32_10 v18
  v19.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v20 : BitVec 32 := Scalar.addi v2 c3_i32
  let c32_i32_11 : BitVec 32 := 32#32
  let v21 : BitVec 32 := Scalar.remsi v20 c32_i32_11
  let c1_i32_13 : BitVec 32 := 1#32
  let v22 : BitVec 32 := Scalar.muli v21 c1_i32_13
  let v23 : BitVec 32 := Scalar.addi c0_i32_14 v22
  v23.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v24 : BitVec 32 := Scalar.addi v2 c4_i32
  let c32_i32_15 : BitVec 32 := 32#32
  let v25 : BitVec 32 := Scalar.remsi v24 c32_i32_15
  let c1_i32_17 : BitVec 32 := 1#32
  let v26 : BitVec 32 := Scalar.muli v25 c1_i32_17
  let v27 : BitVec 32 := Scalar.addi c0_i32_18 v26
  v27.toNat
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v28 : BitVec 32 := Scalar.addi v2 c5_i32
  let c32_i32_19 : BitVec 32 := 32#32
  let v29 : BitVec 32 := Scalar.remsi v28 c32_i32_19
  let c1_i32_21 : BitVec 32 := 1#32
  let v30 : BitVec 32 := Scalar.muli v29 c1_i32_21
  let v31 : BitVec 32 := Scalar.addi c0_i32_22 v30
  v31.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v32 : BitVec 32 := Scalar.addi v2 c6_i32
  let c32_i32_23 : BitVec 32 := 32#32
  let v33 : BitVec 32 := Scalar.remsi v32 c32_i32_23
  let c1_i32_25 : BitVec 32 := 1#32
  let v34 : BitVec 32 := Scalar.muli v33 c1_i32_25
  let v35 : BitVec 32 := Scalar.addi c0_i32_26 v34
  v35.toNat
def k0_dev7 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v36 : BitVec 32 := Scalar.addi v2 c7_i32
  let c32_i32_27 : BitVec 32 := 32#32
  let v37 : BitVec 32 := Scalar.remsi v36 c32_i32_27
  let c1_i32_29 : BitVec 32 := 1#32
  let v38 : BitVec 32 := Scalar.muli v37 c1_i32_29
  let v39 : BitVec 32 := Scalar.addi c0_i32_30 v38
  v39.toNat
def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v40 : BitVec 32 := Scalar.addi v2 c8_i32
  let c32_i32_31 : BitVec 32 := 32#32
  let v41 : BitVec 32 := Scalar.remsi v40 c32_i32_31
  let c1_i32_33 : BitVec 32 := 1#32
  let v42 : BitVec 32 := Scalar.muli v41 c1_i32_33
  let v43 : BitVec 32 := Scalar.addi c0_i32_34 v42
  v43.toNat
def k0_dev9 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v44 : BitVec 32 := Scalar.addi v2 c9_i32
  let c32_i32_35 : BitVec 32 := 32#32
  let v45 : BitVec 32 := Scalar.remsi v44 c32_i32_35
  let c1_i32_37 : BitVec 32 := 1#32
  let v46 : BitVec 32 := Scalar.muli v45 c1_i32_37
  let v47 : BitVec 32 := Scalar.addi c0_i32_38 v46
  v47.toNat
def k0_dev10 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v48 : BitVec 32 := Scalar.addi v2 c10_i32
  let c32_i32_39 : BitVec 32 := 32#32
  let v49 : BitVec 32 := Scalar.remsi v48 c32_i32_39
  let c1_i32_41 : BitVec 32 := 1#32
  let v50 : BitVec 32 := Scalar.muli v49 c1_i32_41
  let v51 : BitVec 32 := Scalar.addi c0_i32_42 v50
  v51.toNat
def k0_dev11 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v52 : BitVec 32 := Scalar.addi v2 c11_i32
  let c32_i32_43 : BitVec 32 := 32#32
  let v53 : BitVec 32 := Scalar.remsi v52 c32_i32_43
  let c1_i32_45 : BitVec 32 := 1#32
  let v54 : BitVec 32 := Scalar.muli v53 c1_i32_45
  let v55 : BitVec 32 := Scalar.addi c0_i32_46 v54
  v55.toNat
def k0_dev12 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v56 : BitVec 32 := Scalar.addi v2 c12_i32
  let c32_i32_47 : BitVec 32 := 32#32
  let v57 : BitVec 32 := Scalar.remsi v56 c32_i32_47
  let c1_i32_49 : BitVec 32 := 1#32
  let v58 : BitVec 32 := Scalar.muli v57 c1_i32_49
  let v59 : BitVec 32 := Scalar.addi c0_i32_50 v58
  v59.toNat
def k0_dev13 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v60 : BitVec 32 := Scalar.addi v2 c13_i32
  let c32_i32_51 : BitVec 32 := 32#32
  let v61 : BitVec 32 := Scalar.remsi v60 c32_i32_51
  let c1_i32_53 : BitVec 32 := 1#32
  let v62 : BitVec 32 := Scalar.muli v61 c1_i32_53
  let v63 : BitVec 32 := Scalar.addi c0_i32_54 v62
  v63.toNat
def k0_dev14 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v64 : BitVec 32 := Scalar.addi v2 c14_i32
  let c32_i32_55 : BitVec 32 := 32#32
  let v65 : BitVec 32 := Scalar.remsi v64 c32_i32_55
  let c1_i32_57 : BitVec 32 := 1#32
  let v66 : BitVec 32 := Scalar.muli v65 c1_i32_57
  let v67 : BitVec 32 := Scalar.addi c0_i32_58 v66
  v67.toNat
def k0_dev15 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v68 : BitVec 32 := Scalar.addi v2 c15_i32
  let c32_i32_59 : BitVec 32 := 32#32
  let v69 : BitVec 32 := Scalar.remsi v68 c32_i32_59
  let c1_i32_61 : BitVec 32 := 1#32
  let v70 : BitVec 32 := Scalar.muli v69 c1_i32_61
  let v71 : BitVec 32 := Scalar.addi c0_i32_62 v70
  v71.toNat
def k0_dev16 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v72 : BitVec 32 := Scalar.addi v2 c16_i32
  let c32_i32_63 : BitVec 32 := 32#32
  let v73 : BitVec 32 := Scalar.remsi v72 c32_i32_63
  let c1_i32_65 : BitVec 32 := 1#32
  let v74 : BitVec 32 := Scalar.muli v73 c1_i32_65
  let v75 : BitVec 32 := Scalar.addi c0_i32_66 v74
  v75.toNat
def k0_dev17 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v76 : BitVec 32 := Scalar.addi v2 c17_i32
  let c32_i32_67 : BitVec 32 := 32#32
  let v77 : BitVec 32 := Scalar.remsi v76 c32_i32_67
  let c1_i32_69 : BitVec 32 := 1#32
  let v78 : BitVec 32 := Scalar.muli v77 c1_i32_69
  let v79 : BitVec 32 := Scalar.addi c0_i32_70 v78
  v79.toNat
def k0_dev18 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v80 : BitVec 32 := Scalar.addi v2 c18_i32
  let c32_i32_71 : BitVec 32 := 32#32
  let v81 : BitVec 32 := Scalar.remsi v80 c32_i32_71
  let c1_i32_73 : BitVec 32 := 1#32
  let v82 : BitVec 32 := Scalar.muli v81 c1_i32_73
  let v83 : BitVec 32 := Scalar.addi c0_i32_74 v82
  v83.toNat
def k0_dev19 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v84 : BitVec 32 := Scalar.addi v2 c19_i32
  let c32_i32_75 : BitVec 32 := 32#32
  let v85 : BitVec 32 := Scalar.remsi v84 c32_i32_75
  let c1_i32_77 : BitVec 32 := 1#32
  let v86 : BitVec 32 := Scalar.muli v85 c1_i32_77
  let v87 : BitVec 32 := Scalar.addi c0_i32_78 v86
  v87.toNat
def k0_dev20 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v88 : BitVec 32 := Scalar.addi v2 c20_i32
  let c32_i32_79 : BitVec 32 := 32#32
  let v89 : BitVec 32 := Scalar.remsi v88 c32_i32_79
  let c1_i32_81 : BitVec 32 := 1#32
  let v90 : BitVec 32 := Scalar.muli v89 c1_i32_81
  let v91 : BitVec 32 := Scalar.addi c0_i32_82 v90
  v91.toNat
def k0_dev21 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v92 : BitVec 32 := Scalar.addi v2 c21_i32
  let c32_i32_83 : BitVec 32 := 32#32
  let v93 : BitVec 32 := Scalar.remsi v92 c32_i32_83
  let c1_i32_85 : BitVec 32 := 1#32
  let v94 : BitVec 32 := Scalar.muli v93 c1_i32_85
  let v95 : BitVec 32 := Scalar.addi c0_i32_86 v94
  v95.toNat
def k0_dev22 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v96 : BitVec 32 := Scalar.addi v2 c22_i32
  let c32_i32_87 : BitVec 32 := 32#32
  let v97 : BitVec 32 := Scalar.remsi v96 c32_i32_87
  let c1_i32_89 : BitVec 32 := 1#32
  let v98 : BitVec 32 := Scalar.muli v97 c1_i32_89
  let v99 : BitVec 32 := Scalar.addi c0_i32_90 v98
  v99.toNat
def k0_dev23 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v100 : BitVec 32 := Scalar.addi v2 c23_i32
  let c32_i32_91 : BitVec 32 := 32#32
  let v101 : BitVec 32 := Scalar.remsi v100 c32_i32_91
  let c1_i32_93 : BitVec 32 := 1#32
  let v102 : BitVec 32 := Scalar.muli v101 c1_i32_93
  let v103 : BitVec 32 := Scalar.addi c0_i32_94 v102
  v103.toNat
def k0_dev24 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v104 : BitVec 32 := Scalar.addi v2 c24_i32
  let c32_i32_95 : BitVec 32 := 32#32
  let v105 : BitVec 32 := Scalar.remsi v104 c32_i32_95
  let c1_i32_97 : BitVec 32 := 1#32
  let v106 : BitVec 32 := Scalar.muli v105 c1_i32_97
  let v107 : BitVec 32 := Scalar.addi c0_i32_98 v106
  v107.toNat
def k0_dev25 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v108 : BitVec 32 := Scalar.addi v2 c25_i32
  let c32_i32_99 : BitVec 32 := 32#32
  let v109 : BitVec 32 := Scalar.remsi v108 c32_i32_99
  let c1_i32_101 : BitVec 32 := 1#32
  let v110 : BitVec 32 := Scalar.muli v109 c1_i32_101
  let v111 : BitVec 32 := Scalar.addi c0_i32_102 v110
  v111.toNat
def k0_dev26 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v112 : BitVec 32 := Scalar.addi v2 c26_i32
  let c32_i32_103 : BitVec 32 := 32#32
  let v113 : BitVec 32 := Scalar.remsi v112 c32_i32_103
  let c1_i32_105 : BitVec 32 := 1#32
  let v114 : BitVec 32 := Scalar.muli v113 c1_i32_105
  let v115 : BitVec 32 := Scalar.addi c0_i32_106 v114
  v115.toNat
def k0_dev27 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v116 : BitVec 32 := Scalar.addi v2 c27_i32
  let c32_i32_107 : BitVec 32 := 32#32
  let v117 : BitVec 32 := Scalar.remsi v116 c32_i32_107
  let c1_i32_109 : BitVec 32 := 1#32
  let v118 : BitVec 32 := Scalar.muli v117 c1_i32_109
  let v119 : BitVec 32 := Scalar.addi c0_i32_110 v118
  v119.toNat
def k0_dev28 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v120 : BitVec 32 := Scalar.addi v2 c28_i32
  let c32_i32_111 : BitVec 32 := 32#32
  let v121 : BitVec 32 := Scalar.remsi v120 c32_i32_111
  let c1_i32_113 : BitVec 32 := 1#32
  let v122 : BitVec 32 := Scalar.muli v121 c1_i32_113
  let v123 : BitVec 32 := Scalar.addi c0_i32_114 v122
  v123.toNat
def k0_dev29 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v124 : BitVec 32 := Scalar.addi v2 c29_i32
  let c32_i32_115 : BitVec 32 := 32#32
  let v125 : BitVec 32 := Scalar.remsi v124 c32_i32_115
  let c1_i32_117 : BitVec 32 := 1#32
  let v126 : BitVec 32 := Scalar.muli v125 c1_i32_117
  let v127 : BitVec 32 := Scalar.addi c0_i32_118 v126
  v127.toNat
def k0_dev30 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v128 : BitVec 32 := Scalar.addi v2 c30_i32
  let c32_i32_119 : BitVec 32 := 32#32
  let v129 : BitVec 32 := Scalar.remsi v128 c32_i32_119
  let c1_i32_121 : BitVec 32 := 1#32
  let v130 : BitVec 32 := Scalar.muli v129 c1_i32_121
  let v131 : BitVec 32 := Scalar.addi c0_i32_122 v130
  v131.toNat
def k0_dev31 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v132 : BitVec 32 := Scalar.addi v2 c31_i32
  let c32_i32_123 : BitVec 32 := 32#32
  let v133 : BitVec 32 := Scalar.remsi v132 c32_i32_123
  let c1_i32_125 : BitVec 32 := 1#32
  let v134 : BitVec 32 := Scalar.muli v133 c1_i32_125
  let v135 : BitVec 32 := Scalar.addi c0_i32_126 v134
  v135.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_135 : BitVec 32 := 0#32
  let c0_i32_136 : BitVec 32 := 0#32
  ![v2.toNat, 0, 0]
def k0_off4 (d0 : Dev nD) (c16_i32_128 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v136 : BitVec 32 := Scalar.addi v2 c16_i32_128
  let c32_i32_129 : BitVec 32 := 32#32
  let v137 : BitVec 32 := Scalar.remsi v136 c32_i32_129
  let c32_i32_130 : BitVec 32 := 32#32
  let v138 : BitVec 32 := Scalar.muli v137 c32_i32_130
  let c0_i32_137 : BitVec 32 := 0#32
  ![v138.toNat, 0]
def k0_dev32 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_128 : BitVec 32 := 16#32
  let v136 : BitVec 32 := Scalar.addi v2 c16_i32_128
  let c32_i32_129 : BitVec 32 := 32#32
  let v137 : BitVec 32 := Scalar.remsi v136 c32_i32_129
  let c1_i32_133 : BitVec 32 := 1#32
  let v139 : BitVec 32 := Scalar.muli v137 c1_i32_133
  let v140 : BitVec 32 := Scalar.addi c0_i32_134 v139
  v140.toNat
def k0_dev33 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_138 : BitVec 32 := 15#32
  let v148 : BitVec 32 := Scalar.addi v2 c15_i32_138
  let c32_i32_139 : BitVec 32 := 32#32
  let v149 : BitVec 32 := Scalar.remsi v148 c32_i32_139
  let c1_i32_143 : BitVec 32 := 1#32
  let v151 : BitVec 32 := Scalar.muli v149 c1_i32_143
  let v152 : BitVec 32 := Scalar.addi c0_i32_144 v151
  v152.toNat
def k0_dev34 (d0 : Dev nD) : Nat :=
  let c0_i32_154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_148 : BitVec 32 := 17#32
  let v160 : BitVec 32 := Scalar.addi v2 c17_i32_148
  let c32_i32_149 : BitVec 32 := 32#32
  let v161 : BitVec 32 := Scalar.remsi v160 c32_i32_149
  let c1_i32_153 : BitVec 32 := 1#32
  let v163 : BitVec 32 := Scalar.muli v161 c1_i32_153
  let v164 : BitVec 32 := Scalar.addi c0_i32_154 v163
  v164.toNat
def k0_dev35 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_158 : BitVec 32 := 14#32
  let v172 : BitVec 32 := Scalar.addi v2 c14_i32_158
  let c32_i32_159 : BitVec 32 := 32#32
  let v173 : BitVec 32 := Scalar.remsi v172 c32_i32_159
  let c1_i32_163 : BitVec 32 := 1#32
  let v175 : BitVec 32 := Scalar.muli v173 c1_i32_163
  let v176 : BitVec 32 := Scalar.addi c0_i32_164 v175
  v176.toNat
def k0_dev36 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_168 : BitVec 32 := 18#32
  let v184 : BitVec 32 := Scalar.addi v2 c18_i32_168
  let c32_i32_169 : BitVec 32 := 32#32
  let v185 : BitVec 32 := Scalar.remsi v184 c32_i32_169
  let c1_i32_173 : BitVec 32 := 1#32
  let v187 : BitVec 32 := Scalar.muli v185 c1_i32_173
  let v188 : BitVec 32 := Scalar.addi c0_i32_174 v187
  v188.toNat
def k0_dev37 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_178 : BitVec 32 := 13#32
  let v196 : BitVec 32 := Scalar.addi v2 c13_i32_178
  let c32_i32_179 : BitVec 32 := 32#32
  let v197 : BitVec 32 := Scalar.remsi v196 c32_i32_179
  let c1_i32_183 : BitVec 32 := 1#32
  let v199 : BitVec 32 := Scalar.muli v197 c1_i32_183
  let v200 : BitVec 32 := Scalar.addi c0_i32_184 v199
  v200.toNat
def k0_dev38 (d0 : Dev nD) : Nat :=
  let c0_i32_194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_188 : BitVec 32 := 19#32
  let v208 : BitVec 32 := Scalar.addi v2 c19_i32_188
  let c32_i32_189 : BitVec 32 := 32#32
  let v209 : BitVec 32 := Scalar.remsi v208 c32_i32_189
  let c1_i32_193 : BitVec 32 := 1#32
  let v211 : BitVec 32 := Scalar.muli v209 c1_i32_193
  let v212 : BitVec 32 := Scalar.addi c0_i32_194 v211
  v212.toNat
def k0_dev39 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_198 : BitVec 32 := 12#32
  let v220 : BitVec 32 := Scalar.addi v2 c12_i32_198
  let c32_i32_199 : BitVec 32 := 32#32
  let v221 : BitVec 32 := Scalar.remsi v220 c32_i32_199
  let c1_i32_203 : BitVec 32 := 1#32
  let v223 : BitVec 32 := Scalar.muli v221 c1_i32_203
  let v224 : BitVec 32 := Scalar.addi c0_i32_204 v223
  v224.toNat
def k0_dev40 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_208 : BitVec 32 := 20#32
  let v232 : BitVec 32 := Scalar.addi v2 c20_i32_208
  let c32_i32_209 : BitVec 32 := 32#32
  let v233 : BitVec 32 := Scalar.remsi v232 c32_i32_209
  let c1_i32_213 : BitVec 32 := 1#32
  let v235 : BitVec 32 := Scalar.muli v233 c1_i32_213
  let v236 : BitVec 32 := Scalar.addi c0_i32_214 v235
  v236.toNat
def k0_dev41 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_218 : BitVec 32 := 11#32
  let v244 : BitVec 32 := Scalar.addi v2 c11_i32_218
  let c32_i32_219 : BitVec 32 := 32#32
  let v245 : BitVec 32 := Scalar.remsi v244 c32_i32_219
  let c1_i32_223 : BitVec 32 := 1#32
  let v247 : BitVec 32 := Scalar.muli v245 c1_i32_223
  let v248 : BitVec 32 := Scalar.addi c0_i32_224 v247
  v248.toNat
def k0_dev42 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_228 : BitVec 32 := 21#32
  let v256 : BitVec 32 := Scalar.addi v2 c21_i32_228
  let c32_i32_229 : BitVec 32 := 32#32
  let v257 : BitVec 32 := Scalar.remsi v256 c32_i32_229
  let c1_i32_233 : BitVec 32 := 1#32
  let v259 : BitVec 32 := Scalar.muli v257 c1_i32_233
  let v260 : BitVec 32 := Scalar.addi c0_i32_234 v259
  v260.toNat
def k0_dev43 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_238 : BitVec 32 := 10#32
  let v268 : BitVec 32 := Scalar.addi v2 c10_i32_238
  let c32_i32_239 : BitVec 32 := 32#32
  let v269 : BitVec 32 := Scalar.remsi v268 c32_i32_239
  let c1_i32_243 : BitVec 32 := 1#32
  let v271 : BitVec 32 := Scalar.muli v269 c1_i32_243
  let v272 : BitVec 32 := Scalar.addi c0_i32_244 v271
  v272.toNat
def k0_dev44 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_248 : BitVec 32 := 22#32
  let v280 : BitVec 32 := Scalar.addi v2 c22_i32_248
  let c32_i32_249 : BitVec 32 := 32#32
  let v281 : BitVec 32 := Scalar.remsi v280 c32_i32_249
  let c1_i32_253 : BitVec 32 := 1#32
  let v283 : BitVec 32 := Scalar.muli v281 c1_i32_253
  let v284 : BitVec 32 := Scalar.addi c0_i32_254 v283
  v284.toNat
def k0_dev45 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_258 : BitVec 32 := 9#32
  let v292 : BitVec 32 := Scalar.addi v2 c9_i32_258
  let c32_i32_259 : BitVec 32 := 32#32
  let v293 : BitVec 32 := Scalar.remsi v292 c32_i32_259
  let c1_i32_263 : BitVec 32 := 1#32
  let v295 : BitVec 32 := Scalar.muli v293 c1_i32_263
  let v296 : BitVec 32 := Scalar.addi c0_i32_264 v295
  v296.toNat
def k0_dev46 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_268 : BitVec 32 := 23#32
  let v304 : BitVec 32 := Scalar.addi v2 c23_i32_268
  let c32_i32_269 : BitVec 32 := 32#32
  let v305 : BitVec 32 := Scalar.remsi v304 c32_i32_269
  let c1_i32_273 : BitVec 32 := 1#32
  let v307 : BitVec 32 := Scalar.muli v305 c1_i32_273
  let v308 : BitVec 32 := Scalar.addi c0_i32_274 v307
  v308.toNat
def k0_dev47 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_278 : BitVec 32 := 8#32
  let v316 : BitVec 32 := Scalar.addi v2 c8_i32_278
  let c32_i32_279 : BitVec 32 := 32#32
  let v317 : BitVec 32 := Scalar.remsi v316 c32_i32_279
  let c1_i32_283 : BitVec 32 := 1#32
  let v319 : BitVec 32 := Scalar.muli v317 c1_i32_283
  let v320 : BitVec 32 := Scalar.addi c0_i32_284 v319
  v320.toNat
def k0_dev48 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_288 : BitVec 32 := 24#32
  let v328 : BitVec 32 := Scalar.addi v2 c24_i32_288
  let c32_i32_289 : BitVec 32 := 32#32
  let v329 : BitVec 32 := Scalar.remsi v328 c32_i32_289
  let c1_i32_293 : BitVec 32 := 1#32
  let v331 : BitVec 32 := Scalar.muli v329 c1_i32_293
  let v332 : BitVec 32 := Scalar.addi c0_i32_294 v331
  v332.toNat
def k0_dev49 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_298 : BitVec 32 := 7#32
  let v340 : BitVec 32 := Scalar.addi v2 c7_i32_298
  let c32_i32_299 : BitVec 32 := 32#32
  let v341 : BitVec 32 := Scalar.remsi v340 c32_i32_299
  let c1_i32_303 : BitVec 32 := 1#32
  let v343 : BitVec 32 := Scalar.muli v341 c1_i32_303
  let v344 : BitVec 32 := Scalar.addi c0_i32_304 v343
  v344.toNat
def k0_dev50 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_308 : BitVec 32 := 25#32
  let v352 : BitVec 32 := Scalar.addi v2 c25_i32_308
  let c32_i32_309 : BitVec 32 := 32#32
  let v353 : BitVec 32 := Scalar.remsi v352 c32_i32_309
  let c1_i32_313 : BitVec 32 := 1#32
  let v355 : BitVec 32 := Scalar.muli v353 c1_i32_313
  let v356 : BitVec 32 := Scalar.addi c0_i32_314 v355
  v356.toNat
def k0_dev51 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_318 : BitVec 32 := 6#32
  let v364 : BitVec 32 := Scalar.addi v2 c6_i32_318
  let c32_i32_319 : BitVec 32 := 32#32
  let v365 : BitVec 32 := Scalar.remsi v364 c32_i32_319
  let c1_i32_323 : BitVec 32 := 1#32
  let v367 : BitVec 32 := Scalar.muli v365 c1_i32_323
  let v368 : BitVec 32 := Scalar.addi c0_i32_324 v367
  v368.toNat
def k0_dev52 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_328 : BitVec 32 := 26#32
  let v376 : BitVec 32 := Scalar.addi v2 c26_i32_328
  let c32_i32_329 : BitVec 32 := 32#32
  let v377 : BitVec 32 := Scalar.remsi v376 c32_i32_329
  let c1_i32_333 : BitVec 32 := 1#32
  let v379 : BitVec 32 := Scalar.muli v377 c1_i32_333
  let v380 : BitVec 32 := Scalar.addi c0_i32_334 v379
  v380.toNat
def k0_dev53 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_338 : BitVec 32 := 5#32
  let v388 : BitVec 32 := Scalar.addi v2 c5_i32_338
  let c32_i32_339 : BitVec 32 := 32#32
  let v389 : BitVec 32 := Scalar.remsi v388 c32_i32_339
  let c1_i32_343 : BitVec 32 := 1#32
  let v391 : BitVec 32 := Scalar.muli v389 c1_i32_343
  let v392 : BitVec 32 := Scalar.addi c0_i32_344 v391
  v392.toNat
def k0_dev54 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_348 : BitVec 32 := 27#32
  let v400 : BitVec 32 := Scalar.addi v2 c27_i32_348
  let c32_i32_349 : BitVec 32 := 32#32
  let v401 : BitVec 32 := Scalar.remsi v400 c32_i32_349
  let c1_i32_353 : BitVec 32 := 1#32
  let v403 : BitVec 32 := Scalar.muli v401 c1_i32_353
  let v404 : BitVec 32 := Scalar.addi c0_i32_354 v403
  v404.toNat
def k0_dev55 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_358 : BitVec 32 := 4#32
  let v412 : BitVec 32 := Scalar.addi v2 c4_i32_358
  let c32_i32_359 : BitVec 32 := 32#32
  let v413 : BitVec 32 := Scalar.remsi v412 c32_i32_359
  let c1_i32_363 : BitVec 32 := 1#32
  let v415 : BitVec 32 := Scalar.muli v413 c1_i32_363
  let v416 : BitVec 32 := Scalar.addi c0_i32_364 v415
  v416.toNat
def k0_dev56 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_368 : BitVec 32 := 28#32
  let v424 : BitVec 32 := Scalar.addi v2 c28_i32_368
  let c32_i32_369 : BitVec 32 := 32#32
  let v425 : BitVec 32 := Scalar.remsi v424 c32_i32_369
  let c1_i32_373 : BitVec 32 := 1#32
  let v427 : BitVec 32 := Scalar.muli v425 c1_i32_373
  let v428 : BitVec 32 := Scalar.addi c0_i32_374 v427
  v428.toNat
def k0_dev57 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_378 : BitVec 32 := 3#32
  let v436 : BitVec 32 := Scalar.addi v2 c3_i32_378
  let c32_i32_379 : BitVec 32 := 32#32
  let v437 : BitVec 32 := Scalar.remsi v436 c32_i32_379
  let c1_i32_383 : BitVec 32 := 1#32
  let v439 : BitVec 32 := Scalar.muli v437 c1_i32_383
  let v440 : BitVec 32 := Scalar.addi c0_i32_384 v439
  v440.toNat
def k0_dev58 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_388 : BitVec 32 := 29#32
  let v448 : BitVec 32 := Scalar.addi v2 c29_i32_388
  let c32_i32_389 : BitVec 32 := 32#32
  let v449 : BitVec 32 := Scalar.remsi v448 c32_i32_389
  let c1_i32_393 : BitVec 32 := 1#32
  let v451 : BitVec 32 := Scalar.muli v449 c1_i32_393
  let v452 : BitVec 32 := Scalar.addi c0_i32_394 v451
  v452.toNat
def k0_dev59 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_398 : BitVec 32 := 2#32
  let v460 : BitVec 32 := Scalar.addi v2 c2_i32_398
  let c32_i32_399 : BitVec 32 := 32#32
  let v461 : BitVec 32 := Scalar.remsi v460 c32_i32_399
  let c1_i32_403 : BitVec 32 := 1#32
  let v463 : BitVec 32 := Scalar.muli v461 c1_i32_403
  let v464 : BitVec 32 := Scalar.addi c0_i32_404 v463
  v464.toNat
def k0_dev60 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_408 : BitVec 32 := 30#32
  let v472 : BitVec 32 := Scalar.addi v2 c30_i32_408
  let c32_i32_409 : BitVec 32 := 32#32
  let v473 : BitVec 32 := Scalar.remsi v472 c32_i32_409
  let c1_i32_413 : BitVec 32 := 1#32
  let v475 : BitVec 32 := Scalar.muli v473 c1_i32_413
  let v476 : BitVec 32 := Scalar.addi c0_i32_414 v475
  v476.toNat
def k0_dev61 (d0 : Dev nD) : Nat :=
  let c0_i32_424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_418 : BitVec 32 := 1#32
  let v484 : BitVec 32 := Scalar.addi v2 c1_i32_418
  let c32_i32_419 : BitVec 32 := 32#32
  let v485 : BitVec 32 := Scalar.remsi v484 c32_i32_419
  let c1_i32_423 : BitVec 32 := 1#32
  let v487 : BitVec 32 := Scalar.muli v485 c1_i32_423
  let v488 : BitVec 32 := Scalar.addi c0_i32_424 v487
  v488.toNat
def k0_dev62 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_428 : BitVec 32 := 31#32
  let v496 : BitVec 32 := Scalar.addi v2 c31_i32_428
  let c32_i32_429 : BitVec 32 := 32#32
  let v497 : BitVec 32 := Scalar.remsi v496 c32_i32_429
  let c1_i32_433 : BitVec 32 := 1#32
  let v499 : BitVec 32 := Scalar.muli v497 c1_i32_433
  let v500 : BitVec 32 := Scalar.addi c0_i32_434 v499
  v500.toNat
def k0_off5 (d0 : Dev nD) (c1_i32_439 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_438 : BitVec 32 := 32#32
  let v508 : BitVec 32 := Scalar.addi v2 c32_i32_438
  let v509 : BitVec 32 := Scalar.subi v508 c1_i32_439
  let c32_i32_440 : BitVec 32 := 32#32
  let v510 : BitVec 32 := Scalar.remsi v509 c32_i32_440
  let c0_i32_446 : BitVec 32 := 0#32
  let c0_i32_447 : BitVec 32 := 0#32
  ![v510.toNat, 0, 0]
def k0_off6 (d0 : Dev nD) (c1_i32_439 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_438 : BitVec 32 := 32#32
  let v508 : BitVec 32 := Scalar.addi v2 c32_i32_438
  let v509 : BitVec 32 := Scalar.subi v508 c1_i32_439
  let c32_i32_440 : BitVec 32 := 32#32
  let v510 : BitVec 32 := Scalar.remsi v509 c32_i32_440
  let c32_i32_441 : BitVec 32 := 32#32
  let v511 : BitVec 32 := Scalar.muli v510 c32_i32_441
  let c0_i32_448 : BitVec 32 := 0#32
  ![v511.toNat, 0]
abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Shape.lean ====
/-
# The kernel's text as four runs over the peers

The printed kernel is straight-line text of some 130 operations: 31 signals, one wait, 31 transfers, 31 waits for
what arrives, 31 waits for what was sent, and the product. Here each run is written once, as a fold over the list
of the peers' distances, and the printed text is shown to be that.
-/
module

public import proofs.«01_k».proof.Proof.Gen.KernelIdeal
public import proofs.«01_k».proof.Proof.Gen.KernelIdeal.Skeleton
public import Idealize.ShloMosaic.Lib.Pipeline.Regions

@[expose] public section

noncomputable section

namespace Cert.A2A

open Cert.KernelIdeal Cert.KernelIdeal.Gen
open Idealize.ShloMosaic Idealize.SL.Sem
open Idealize.ShloMosaic.TcCoe

variable {F : FTy → Type} [FloatOps F]

/-- A program of the kernel. -/
abbrev KProg (F : FTy → Type) : Type 1 := Prog (TpuEff nD τ sig (Elt F) Λ₀ .tc) PUnit

/-- The word the kernel computes for the distance `r + 1`. -/
abbrev wordOf (r : Fin 31) : BitVec 32 := BitVec.ofNat 32 (1 + r.val)

/-- The logical id of the device at a distance `k` (a word), as the kernel computes it. -/
def peerId (d0 : Dev nD) (k : BitVec 32) : Nat :=
  (Scalar.addi 0#32 (Scalar.muli (Scalar.remsi (Scalar.addi (Scalar.remsi (Scalar.divsi (Dev.word d0) 1#32) 32#32) k) 32#32) 1#32)).toNat

set_option maxRecDepth 8000 in
/-- That id is the device's number plus the distance, modulo the mesh. -/
theorem peerId_eq : ∀ (d0 : Dev nD) (r : Fin 31), peerId d0 (wordOf r) = (d0.val + (r.val + 1)) % 32 := by decide +kernel

/-- The peer's number is a device's. -/
theorem peerId_lt (d0 : Dev nD) (r : Fin 31) : peerId d0 (wordOf r) < nD := by
  rw [peerId_eq]; exact Nat.mod_lt _ (by decide)

/-- The device at distance `r + 1`, as the kernel addresses it. -/
abbrev peerK (d0 : Dev nD) (r : Fin 31) : Dev nD := ⟨peerId d0 (wordOf r), peerId_lt d0 r⟩

/-- One semaphore of an array of 32 lies in it. -/
theorem one_inb (r : Fin 31) : ∀ a, (![1 + r.val] : Fin 1 → Nat) a + S1.size a ≤ S32.size a := by
  revert r; decide

/-- The semaphore of distance `r + 1` in an array of 32. -/
abbrev semAt (A : DmaSems sig S32) (r : Fin 31) : DmaSem sig :=
  ((A.slice (Rect.unit (s := S32) ![1 + r.val] S1.size (one_inb r))).squeeze S_ squeezes_S1_S_).sem

section Text

variable (arg0 : Memref sig .tc .vmem S1024x32 .f32) (harg0 : arg0.IsWhole) (arg1 : Memref sig .tc .hbm S1024x1024 .f32) (harg1 : arg1.IsWhole)
  (arg2 : Memref sig .tc .vmem S32x1024 .f32) (harg2 : arg2.IsWhole) (arg3 : Memref sig .tc .vmem S1024x1024 .f32) (harg3 : arg3.IsWhole)
  (arg4 : Memref sig .tc .vmem S32x32x32 .f32) (harg4 : arg4.IsWhole) (arg5 arg6 : DmaSems sig S32) (arg7 : DmaSems sig S_)

/-- The barrier semaphore. -/
abbrev barS : Sem sig := (SemArray.scalar (sig.barrier 0 rfl) : Sems sig S_).sem

/-- The row block of the staged `x` that goes to the device at distance `r + 1`. -/
abbrev rowsK (d0 : Dev nD) (r : Fin 31) : Memref sig .tc .vmem S32x32 .f32 :=
  arg0.slice (Rect.unit (s := S1024x32) (k0_off4 d0 (wordOf r)) S32x32.size (k0_off4_inb d0 r)) (fun _ => rfl)
/-- The plane device `d0` writes on its peers: plane `d0`. -/
abbrev planeK (d0 : Dev nD) : Memref sig .tc .vmem S32x32 .f32 :=
  (arg4.slice (Rect.unit (s := S32x32x32) (k0_off3 d0) S1x32x32.size (k0_off3_inb d0)) (fun _ => rfl)).squeeze S32x32 squeezes_S1x32x32_S32x32
/-- What a receive wait names as its source, -/
abbrev wsrcK (d0 : Dev nD) (r : Fin 31) : Memref sig .tc .vmem S32x32 .f32 :=
  arg0.slice (Rect.unit (s := S1024x32) (k0_off6 d0 (wordOf r)) S32x32.size (k0_off6_inb d0 r)) (fun _ => rfl)
/-- and as its destination. -/
abbrev wdstK (d0 : Dev nD) (r : Fin 31) : Memref sig .tc .vmem S32x32 .f32 :=
  (arg4.slice (Rect.unit (s := S32x32x32) (k0_off5 d0 (wordOf r)) S1x32x32.size (k0_off5_inb d0 r)) (fun _ => rfl)).squeeze S32x32 squeezes_S1x32x32_S32x32

/-- One signal of the barrier. -/
def signalStep (d0 : Dev nD) (r : Fin 31) (k : KProg F) : KProg F :=
  .op (.semSignal (peerK d0 r, .tc) barS (1#32 : BitVec 32).toInt) fun _ => k
/-- One transfer. -/
def sendStep (d0 : Dev nD) (r : Fin 31) (k : KProg F) : KProg F :=
  .op (.enqueueDma (rowsK arg0 d0 r) (.remote (Dev.tc (peerK d0 r)) (planeK arg4 d0) (.dma (semAt arg5 r))) (.dma (semAt arg6 r))
    (View.wordExact_bits rfl) ((View.wordExact_bits rfl).reshape _ _) ⟨⟨rfl, Or.inl rfl⟩, trivial⟩) fun _ => k
/-- One wait for an arrival. -/
def recvStep (d0 : Dev nD) (r : Fin 31) (k : KProg F) : KProg F :=
  .op (.waitDma2 (semAt arg6 r) (wsrcK arg0 d0 r) (wdstK arg4 d0 r) (View.wordExact_bits rfl) ((View.wordExact_bits rfl).reshape _ _)) fun _ => k
/-- One wait for a departure. -/
def sentStep (d0 : Dev nD) (r : Fin 31) (k : KProg F) : KProg F :=
  .op (.waitDma2 (semAt arg5 r) (planeK arg4 d0) (rowsK arg0 d0 r) ((View.wordExact_bits rfl).reshape _ _) (View.wordExact_bits rfl)) fun _ => k

/-- The distances in rising order (less one). -/
abbrev rising : List (Fin 31) := List.finRange 31
/-- The distances in the order of the transfers: from the middle outwards (less one). -/
abbrev outwards : List (Fin 31) :=
  [15, 14, 16, 13, 17, 12, 18, 11, 19, 10, 20, 9, 21, 8, 22, 7, 23, 6, 24, 5, 25, 4, 26, 3, 27, 2, 28, 1, 29, 0, 30]

/-- The end of the kernel: the gathered planes, the whole of `w`, the product. -/
def tailText : KProg F :=
  .op (.load arg4 (Rect.unit (s := S32x32x32) ![0, 0, 0] S32x32x32.size inb_S32x32x32_S32x32x32_0_0_0).toLoadRect (View.loadsAt_vmem h_S32x32x32)) fun g =>
  .op (.waitDma2 arg7.sem arg1 arg3 harg1.wordExact harg3.wordExact) fun _ =>
  .op (.load arg3 (Rect.unit (s := S1024x1024) ![0, 0] S1024x1024.size inb_S1024x1024_S1024x1024_0_0).toLoadRect (View.loadsAt_vmem h_S1024x1024)) fun w =>
  .op (.load arg2 (Rect.unit (s := S32x1024) ![0, 0] S32x1024.size inb_S32x1024_S32x1024_0_0).toLoadRect (View.loadsAt_vmem h_S32x1024)) fun _ =>
  .op (.store arg2 (Rect.unit (s := S32x1024) ![0, 0] S32x1024.size inb_S32x1024_S32x1024_0_0) (k0_pay1 g w) Finset.univ (View.stores_vmem_bits_univ h_S32x1024 rfl) (.inl rfl)) fun _ =>
  .ret ⟨⟩

/-- The kernel from its barrier on. -/
def afterOwn (d0 : Dev nD) : KProg F :=
  rising.foldr (signalStep d0) <|
  .op (.semWait barS (31#32 : BitVec 32).toInt) fun _ =>
  outwards.foldr (sendStep arg0 arg4 arg5 arg6 d0) <|
  rising.foldr (recvStep arg0 arg4 arg6 d0) <|
  rising.foldr (sentStep arg0 arg4 arg5 d0) <|
  tailText arg1 harg1 arg2 arg3 harg3 arg4 arg7

/-- The kernel. -/
def text : KProg F :=
  .op .deviceId fun d0 =>
  .op (.enqueueDma arg1 (.here arg3) (.dma arg7.sem) harg1.wordExact harg3.wordExact ⟨Or.inl rfl, trivial⟩) fun _ =>
  .op (.load arg0 (Rect.unit (s := S1024x32) (k0_off1 d0) S32x32.size (k0_off1_inb d0)).toLoadRect (View.loadsAt_vmem h_S32x32)) fun v5 =>
  .op (.load arg4 (Rect.unit (s := S32x32x32) (k0_off2 d0) S1x32x32.size (k0_off2_inb d0)).toLoadRect (View.loadsAt_vmem h_S1x32x32)) fun _ =>
  .op (.store arg4 (Rect.unit (s := S32x32x32) (k0_off2 d0) S1x32x32.size (k0_off2_inb d0)) (k0_pay2 v5) Finset.univ (View.stores_vmem_bits_univ h_S1x32x32 rfl) (.inl rfl)) fun _ =>
  afterOwn arg0 arg1 harg1 arg2 arg3 harg3 arg4 arg5 arg6 arg7 d0

set_option maxRecDepth 65536 in
/-- The printed kernel is that text. -/
theorem body_eq : cc0_body (F := F) arg0 harg0 arg1 harg1 arg2 harg2 arg3 harg3 arg4 harg4 arg5 arg6 arg7
    = text (F := F) arg0 arg1 harg1 arg2 arg3 harg3 arg4 arg5 arg6 arg7 := by
  chain_rfl

end Text

end Cert.A2A

end
-- ==== Proof.Memory.lean ====
/-
# Peers, row blocks and planes

Device `c` sends row block `t` of its staged column block of `x` to device `t`, and keeps what device `s` sends it in
plane `s` of its gathering buffer. Here: the arithmetic of the peers, the two families of pieces (disjoint, covering
their buffers), and what a landed transfer leaves in a plane.
-/
module

public import proofs.«01_k».proof.Proof.Shape
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.A2A

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The peers -/

set_option backward.proofsInPublic true in
/-- The device at distance `r + 1` after `c`. -/
def peer (c : Dev nD) (r : Fin 31) : Dev nD := ⟨(c.val + (r.val + 1)) % 32, Nat.mod_lt _ (by decide)⟩

/-- The kernel addresses its peers by that number. -/
theorem peerK_eq (c : Dev nD) (r : Fin 31) : peerK c r = peer c r := Fin.ext (peerId_eq c r)

/-- Going on by the complementary distance leads back. -/
theorem peer_rev (c : Dev nD) (r : Fin 31) : peer (peer c r) r.rev = c := by
  have hc := c.isLt; have hr := r.isLt
  refine Fin.ext ?_
  simp only [peer, Fin.val_rev]
  simp only [nD] at hc
  omega

/-- Going the mirrored distance and then the distance leads back. -/
theorem rev_peer (c : Dev nD) (r : Fin 31) : peer (peer c r.rev) r = c := by
  have h := peer_rev c r.rev
  rwa [Fin.rev_rev] at h

/-- No peer is the device itself. -/
theorem peer_ne (c : Dev nD) (r : Fin 31) : peer c r ≠ c := fun h => by
  have hc := c.isLt; have hr := r.isLt
  have h' := congrArg Fin.val h
  simp only [peer] at h'
  simp only [nD] at hc
  omega

/-- Different distances lead to different peers. -/
theorem peer_injective (c : Dev nD) : Function.Injective (peer c) := fun r r' h => by
  have hc := c.isLt; have hr := r.isLt; have hr' := r'.isLt
  have h' := congrArg Fin.val h
  simp only [peer] at h'
  simp only [nD] at hc
  exact Fin.ext (by omega)

/-- Every other device is at some distance. -/
theorem exists_peer (c d : Dev nD) (h : d ≠ c) : ∃ r, peer c r = d := by
  have hc := c.isLt; have hd := d.isLt
  have h' : d.val ≠ c.val := fun e => h (Fin.ext e)
  simp only [nD] at hc hd
  refine ⟨⟨(d.val + 31 - c.val) % 32, by omega⟩, Fin.ext ?_⟩
  simp only [peer]
  omega

/-- Going round by a fixed distance, as a bijection of the devices. -/
def around (r : Fin 31) : Dev nD ≃ Dev nD :=
  ⟨fun c => peer c r, fun c => peer c r.rev, fun c => peer_rev c r, fun c => rev_peer c r⟩

/-- A family over the devices, seen from `c`: its own member and its peers'. -/
theorem bigSep_peers {M : Type} [URA M] (c : Dev nD) (Φ : Dev nD → sProp M) :
    bigSep Finset.univ Φ = iprop(Φ c ∗ bigSep Finset.univ fun r : Fin 31 => Φ (peer c r)) := by
  have h : (Finset.univ : Finset (Dev nD)).erase c = (Finset.univ : Finset (Fin 31)).map ⟨peer c, peer_injective c⟩ := by
    ext d
    simp only [Finset.mem_erase, Finset.mem_univ, and_true, Finset.mem_map, true_and, Function.Embedding.coeFn_mk]
    exact ⟨fun hd => exists_peer c d hd, fun ⟨r, hr⟩ => hr ▸ peer_ne c r⟩
  rw [bigSep_univ_at Φ c, h, bigSep_map]
  rfl

/-! ## The buffers and their pieces -/

/-- The staged block of `x`. -/
abbrev xM : Memref sig .tc .vmem S1024x32 .f32 := Memref.whole cc0_stg0_0
/-- The array `w`, in HBM. -/
abbrev wM : Memref sig .tc .hbm S1024x1024 .f32 := Memref.whole main_arg1
/-- The staged result. -/
abbrev oM : Memref sig .tc .vmem S32x1024 .f32 := Memref.whole cc0_stg1_0
/-- The scratch buffer for the weights. -/
abbrev vM : Memref sig .tc .vmem S1024x1024 .f32 := Memref.whole cc0_scratch0
/-- The scratch buffer in which the row blocks are gathered. -/
abbrev gM : Memref sig .tc .vmem S32x32x32 .f32 := Memref.whole cc0_scratch1

/-- Row block `t` of the staged `x`. -/
abbrev rowsT (t : Dev nD) : Memref sig .tc .vmem S32x32 .f32 :=
  xM.slice (Rect.unit (s := S1024x32) (k0_off1 t) S32x32.size (k0_off1_inb t)) (fun _ => rfl)
/-- Plane `s` of the gathering buffer. -/
abbrev planeT (s : Dev nD) : Memref sig .tc .vmem S32x32 .f32 := planeK gM s

/-- Two row blocks at equal offsets are equal. -/
theorem slice_off_eq {off off' : Fin 2 → Nat} (h : off = off') (i : ∀ a, off a + S32x32.size a ≤ S1024x32.size a)
    (i' : ∀ a, off' a + S32x32.size a ≤ S1024x32.size a) :
    xM.slice (Rect.unit (s := S1024x32) off S32x32.size i) (fun _ => rfl)
      = xM.slice (Rect.unit (s := S1024x32) off' S32x32.size i') (fun _ => rfl) := by
  subst h; rfl

/-- The kernel's row block for distance `r + 1` is its peer's. -/
theorem rowsK_eq (c : Dev nD) (r : Fin 31) : rowsK xM c r = rowsT (peer c r) :=
  slice_off_eq (by rw [k0_off4_eq, k0_off1_eq]; rfl) _ _

/-- The places of row block `t`, -/
def rowSet (t : Dev nD) : Finset ((cc0_stg0_0 : Ref sig .tc).ty.Idx) := (rowsT t).view.set
/-- and of plane `s`. -/
def planeSet (s : Dev nD) : Finset ((cc0_scratch1 : Ref sig .tc).ty.Idx) := (planeT s).view.set

/-- Row block `t` holds the rows whose quotient by 32 is `t`. -/
theorem mem_rowSet (t : Dev nD) (i : (cc0_stg0_0 : Ref sig .tc).ty.Idx) : i ∈ rowSet t ↔ (i 0).val / 32 = t.val := by
  have h1 : (i 1).val < 32 := (i 1).isLt
  unfold rowSet
  rw [show (rowsT t).view.set = (Rect.unit (s := S1024x32) (k0_off1 t) S32x32.size (k0_off1_inb t)).set from View.set_slice_whole _ _,
    Rect.mem_set_unit, k0_off1_eq]
  constructor
  · intro h
    have h0 := h 0
    simp only [Matrix.cons_val_zero] at h0
    have : S32x32.size 0 = 32 := rfl
    omega
  · intro h a
    match a with
    | ⟨0, _⟩ =>
      show 32 * t.val ≤ (i 0).val ∧ (i 0).val < 32 * t.val + 32
      omega
    | ⟨1, _⟩ => exact ⟨Nat.zero_le _, by show (i 1).val < 0 + 32; omega⟩

/-- Plane `s` holds the places whose first coordinate is `s`. -/
theorem mem_planeSet (s : Dev nD) (i : (cc0_scratch1 : Ref sig .tc).ty.Idx) : i ∈ planeSet s ↔ (i 0).val = s.val := by
  have h1 : (i 1).val < 32 := (i 1).isLt
  have h2 : (i 2).val < 32 := (i 2).isLt
  unfold planeSet
  rw [show (planeT s).view.set = (Rect.unit (s := S32x32x32) (k0_off3 s) S1x32x32.size (k0_off3_inb s)).set from
      (View.set_reshape _ _).trans (View.set_slice_whole _ _),
    Rect.mem_set_unit, k0_off3_eq]
  constructor
  · intro h
    have h0 := h 0
    simp only [Matrix.cons_val_zero] at h0
    have : S1x32x32.size 0 = 1 := rfl
    omega
  · intro h a
    match a with
    | ⟨0, _⟩ =>
      show s.val ≤ (i 0).val ∧ (i 0).val < s.val + 1
      omega
    | ⟨1, _⟩ => exact ⟨Nat.zero_le _, by show (i 1).val < 0 + 32; omega⟩
    | ⟨2, _⟩ => exact ⟨Nat.zero_le _, by show (i 2).val < 0 + 32; omega⟩

/-- Different row blocks are apart. -/
theorem rowSet_disjoint (t t' : Dev nD) (h : t ≠ t') : Disjoint (rowSet t) (rowSet t') :=
  Finset.disjoint_left.mpr fun i hi hi' => h (Fin.ext (((mem_rowSet t i).mp hi).symm.trans ((mem_rowSet t' i).mp hi')))

/-- Different planes are apart. -/
theorem planeSet_disjoint (s s' : Dev nD) (h : s ≠ s') : Disjoint (planeSet s) (planeSet s') :=
  Finset.disjoint_left.mpr fun i hi hi' => h (Fin.ext (((mem_planeSet s i).mp hi).symm.trans ((mem_planeSet s' i).mp hi')))

/-- The row blocks make up the buffer. -/
theorem rowSet_cover : Finset.univ.biUnion rowSet = Finset.univ :=
  Finset.eq_univ_iff_forall.mpr fun i => Finset.mem_biUnion.mpr
    ⟨⟨(i 0).val / 32, by have : (i 0).val < 1024 := (i 0).isLt; simp only [nD]; omega⟩, Finset.mem_univ _, (mem_rowSet _ i).mpr rfl⟩

/-- The planes make up the buffer. -/
theorem planeSet_cover : Finset.univ.biUnion planeSet = Finset.univ :=
  Finset.eq_univ_iff_forall.mpr fun i => Finset.mem_biUnion.mpr
    ⟨⟨(i 0).val, (i 0).isLt⟩, Finset.mem_univ _, (mem_planeSet _ i).mpr rfl⟩

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What device `c`'s staging buffer of `x` holds: its column block. -/
def xstg (c : Dev nD) : (cc0_stg0_0 : Ref sig .tc).ty.Contents (Elt F) :=
  (win0_0.blk (0 : Fin 1)).view.read (Elt F) ((s₀ m ρ).mem ((c : Thread nD τ).loc main_arg0))

/-- What device `c`'s copy of `w` holds. -/
def wbuf (c : Dev nD) : (main_arg1 : Ref sig .tc).ty.Contents (Elt F) := (s₀ m ρ).mem ((c : Thread nD τ).loc main_arg1)

/-- Place `(p, q)` of row block `t` in the staged `x`. -/
def rowAt (t : Dev nD) (p q : Fin 32) : (cc0_stg0_0 : Ref sig .tc).ty.Idx :=
  ix2 (n0 := 1024) (n1 := 32) ⟨32 * t.val + p.val, by have := t.isLt; have := p.isLt; simp only [nD] at *; omega⟩ q

/-- What device `c` gathers: in plane `s`, row block `c` of device `s`'s column block. -/
def gath (c : Dev nD) : (cc0_scratch1 : Ref sig .tc).ty.Contents (Elt F) :=
  fun i => xstg m ρ (i 0) (rowAt c (i 1) (i 2))

/-- Where a place of a row block is in the staged `x`. -/
theorem rows_emb (t : Dev nD) (p q : Fin 32) : (rowsT t).view.emb (ix2 p q) = rowAt t p q := by
  funext a
  refine Fin.ext ?_
  have h : ((rowsT t).view.emb (ix2 p q) a).val = k0_off1 t a + 1 * (ix2 (n0 := 32) (n1 := 32) p q a).val := rfl
  rw [h, k0_off1_eq, Nat.one_mul]
  match a with
  | ⟨0, _⟩ => rfl
  | ⟨1, _⟩ => exact Nat.zero_add _

/-- Where a place of a plane is in the gathered buffer. -/
theorem plane_emb (s : Dev nD) (p q : Fin 32) :
    (planeT s).view.emb (ix2 p q) = (ix3 (n0 := 32) (n1 := 32) (n2 := 32) s p q : (cc0_scratch1 : Ref sig .tc).ty.Idx) := by
  funext a
  refine Fin.ext ?_
  have h : ((planeT s).view.emb (ix2 p q) a).val
      = k0_off3 s a + 1 * (Shape.reshapeEquiv (s := S1x32x32) (s' := S32x32) squeezes_S1x32x32_S32x32.numel_eq (ix2 p q) a).val := rfl
  rw [h, k0_off3_eq, Nat.one_mul, reshapeEquiv_ix2_1ab]
  match a with
  | ⟨0, _⟩ => rfl
  | ⟨1, _⟩ => exact Nat.zero_add _
  | ⟨2, _⟩ => exact Nat.zero_add _

/-- A transfer of device `s`'s row block `d` into plane `s` leaves there what device `d` gathers. -/
theorem landed (s d : Dev nD) (fd : (cc0_scratch1 : Ref sig .tc).ty.Contents (Elt F)) (i : (cc0_scratch1 : Ref sig .tc).ty.Idx) (hi : i ∈ planeSet s) :
    (planeT s).view.write (Elt F) fd ((rowsT d).view.read (Elt F) (xstg m ρ s)) Finset.univ i = gath m ρ d i := by
  obtain ⟨y, -, rfl⟩ := Finset.mem_map.mp hi
  obtain ⟨p, q, rfl⟩ : ∃ p q : Fin 32, y = ix2 p q := ⟨y 0, y 1, eq_ix2 y⟩
  rw [View.write_emb_of_mem _ _ (Finset.mem_univ _)]
  refine Eq.trans ?_ (congrArg (gath m ρ d) (plane_emb s p q)).symm
  show xstg m ρ s ((rowsT d).view.emb (ix2 p q)) = xstg m ρ s (rowAt d p q)
  rw [rows_emb]

/-- The part of the gathering buffer that device `c` fills itself. -/
abbrev ownRect (c : Dev nD) : Rect S32x32x32 := Rect.unit (s := S32x32x32) (k0_off2 c) S1x32x32.size (k0_off2_inb c)

/-- Where a place of the device's own plane is, as the kernel stores it. -/
theorem own_emb (c : Dev nD) (p q : Fin 32) :
    (gM.access (ownRect c) : View sig .tc _ _ _).emb (ix3 (n0 := 1) (n1 := 32) (n2 := 32) ⟨0, Nat.one_pos⟩ p q)
      = (ix3 (n0 := 32) (n1 := 32) (n2 := 32) c p q : (cc0_scratch1 : Ref sig .tc).ty.Idx) := by
  funext a
  refine Fin.ext ?_
  have h : ((gM.access (ownRect c) : View sig .tc _ _ _).emb (ix3 (n0 := 1) (n1 := 32) (n2 := 32) ⟨0, Nat.one_pos⟩ p q) a).val
      = k0_off2 c a + 1 * (ix3 (n0 := 1) (n1 := 32) (n2 := 32) ⟨0, Nat.one_pos⟩ p q a).val := rfl
  rw [h, k0_off2_eq, Nat.one_mul]
  match a with
  | ⟨0, _⟩ => rfl
  | ⟨1, _⟩ => exact Nat.zero_add _
  | ⟨2, _⟩ => exact Nat.zero_add _

/-- The stored plane at a place is the loaded row block there. -/
theorem pay2_at (v : Vec F S32x32 .f32) (p q : Fin 32) :
    k0_pay2 v (ix3 (n0 := 1) (n1 := 32) (n2 := 32) ⟨0, Nat.one_pos⟩ p q) = v (ix2 (n0 := 32) (n1 := 32) p q) := by
  unfold k0_pay2
  refine (shapeCast_ab_1ab_apply _ shapeCasts_S32x32_S1x32x32 _ p q).trans ?_
  rw [shapeCast_self]

/-- After the store the own plane holds what was stored. -/
theorem own_write (c : Dev nD) (f : (cc0_scratch1 : Ref sig .tc).ty.Contents (Elt F)) (v : FVec F S1x32x32 .f32) (p q : Fin 32) :
    (gM.access (ownRect c) : View sig .tc _ _ _).write (Elt F) f v Finset.univ
        ((gM.access (ownRect c) : View sig .tc _ _ _).emb (ix3 (n0 := 1) (n1 := 32) (n2 := 32) ⟨0, Nat.one_pos⟩ p q))
      = v (ix3 (n0 := 1) (n1 := 32) (n2 := 32) ⟨0, Nat.one_pos⟩ p q) := by
  rw [View.write_emb_of_mem _ _ (Finset.mem_univ _)]
  rfl

/-- The row block device `c` keeps for itself, as it is read. -/
def ownRows (c : Dev nD) : Vec F S32x32 .f32 :=
  xM.view.readAt (Elt F) (Rect.unit (s := S1024x32) (k0_off1 c) S32x32.size (k0_off1_inb c)).toLoadRect (xstg m ρ c)

/-- The loaded row block at a place. -/
theorem ownRows_at (c : Dev nD) (p q : Fin 32) : ownRows m ρ c (ix2 p q) = xstg m ρ c (rowAt c p q) := by
  show xstg m ρ c ((rowsT c).view.emb (ix2 p q)) = xstg m ρ c (rowAt c p q)
  rw [rows_emb]

/-- The plane device `c` fills itself: after its store, plane `c` holds row block `c` of its own column block. -/
theorem own_plane (c : Dev nD) (f : (cc0_scratch1 : Ref sig .tc).ty.Contents (Elt F)) (i : (cc0_scratch1 : Ref sig .tc).ty.Idx) (hi : i ∈ planeSet c) :
    (gM.access (ownRect c) : View sig .tc _ _ _).write (Elt F) f (k0_pay2 (ownRows m ρ c)) Finset.univ i = gath m ρ c i := by
  obtain ⟨p, q, rfl⟩ : ∃ p q : Fin 32, i = ix3 (n0 := 32) (n1 := 32) (n2 := 32) c p q :=
    ⟨i 1, i 2, by
      have h : i 0 = c := Fin.ext ((mem_planeSet c i).mp hi)
      rw [← h]; exact eq_ix3 (n0 := 32) (n1 := 32) (n2 := 32) i⟩
  rw [← own_emb, own_write, own_emb, pay2_at, ownRows_at]
  rfl

end Cert.A2A

end
-- ==== Proof.Protocol.lean ====
/-
# The protocol

A device's semaphore cells and what passes through them. The barrier cell has a duty for each distance: the device at
that distance hands over the plane it keeps for this device. A receive cell's one duty hands over that plane filled; a
send cell's gives back the row block lent; the cell of the copy of `w` gives both ends of that copy.
-/
module

public import proofs.«01_k».proof.Proof.Memory

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's (a duty for each distance) -/

/-- The rounds' ghost state. -/
abbrev UB : Type := URounds (GSem nD τ sig) (Fin 31)
/-- The pipeline's ghost state and the rounds'. -/
abbrev UU : Type := UR sig nD τ × UB

local notation "𝕄" => MT nD τ sig Unit (Elt F) ℕ UU ℕ

/-- The pipeline's part, -/
abbrev EP : Emb (UR sig nD τ) (MT nD τ sig Unit (Elt F) ℕ UU ℕ) := embL
/-- and the rounds' part. -/
abbrev ER : Emb UB (MT nD τ sig Unit (Elt F) ℕ UU ℕ) := embR

variable (m : (ℓ : Loc nD τ sig) → Buf (Elt F) ℓ) (ρ : Dev nD → PrngReg)

/-! ## The cells -/

/-- The kernel's own semaphores: the copy of `w`; the send and the receive semaphore of each distance. -/
abbrev Own : Type := Unit ⊕ (Fin 31 ⊕ Fin 31)
/-- With the runtime's barrier semaphore, all that the exchange uses. -/
abbrev Role : Type := Unit ⊕ Own

/-- The barrier, -/
abbrev rBar : Role := .inl ()
/-- the copy of the weights, -/
abbrev rCopy : Role := .inr (.inl ())
/-- the send at a distance, -/
abbrev rSend (r : Fin 31) : Role := .inr (.inr (.inl r))
/-- the receive at a distance. -/
abbrev rRecv (r : Fin 31) : Role := .inr (.inr (.inr r))

/-- The semaphore of each of the region's own cells, -/
abbrev osem : Own → SemLoc sig
  | .inl _ => .dma cc0_scratch4.sem
  | .inr (.inl r) => .dma (semAt cc0_scratch2 r)
  | .inr (.inr r) => .dma (semAt cc0_scratch3 r)

/-- and of each cell, the barrier's too. -/
abbrev csem : Role → SemLoc sig
  | .inl _ => .reg barS
  | .inr o => osem o

set_option backward.proofsInPublic true in
/-- The role of a semaphore, if it has one. -/
def roleOf : SemLoc sig → Option Role
  | .reg _ => some rBar
  | .dma q =>
    if q.val = 66 then some rCopy
    else if h : 3 ≤ q.val ∧ q.val < 34 then some (rSend ⟨q.val - 3, by omega⟩)
    else if h : 35 ≤ q.val ∧ q.val < 66 then some (rRecv ⟨q.val - 35, by omega⟩)
    else none

/-- A role's semaphore has that role. -/
theorem roleOf_csem : ∀ k : Role, roleOf (csem k) = some k := by decide

/-- Different roles have different semaphores. -/
theorem csem_injective : Function.Injective csem := fun k k' h =>
  Option.some.inj ((roleOf_csem k).symm.trans ((congrArg roleOf h).trans (roleOf_csem k')))

/-- The cell of a role on a device. -/
abbrev kcell (ck : Dev nD × Role) : GSem nD τ sig := ((ck.1 : Thread nD τ), csem ck.2)

/-- Different devices or roles have different cells. -/
theorem kcell_injective : Function.Injective (kcell : Dev nD × Role → GSem nD τ sig) := by
  rintro ⟨c, k⟩ ⟨c', k'⟩ h
  have h1 : c = c' := congrArg (fun g : GSem nD τ sig => g.1.1) h
  have h2 : k = k' := csem_injective (congrArg Prod.snd h)
  subst h1 h2; rfl

/-- A device's barrier cell, -/
abbrev barC (c : Dev nD) : GSem nD τ sig := kcell (c, rBar)
/-- its cell for the copy of the weights, -/
abbrev copyC (c : Dev nD) : GSem nD τ sig := kcell (c, rCopy)
/-- its send cell at a distance, -/
abbrev sendC (c : Dev nD) (r : Fin 31) : GSem nD τ sig := kcell (c, rSend r)
/-- and its receive cell at a distance. -/
abbrev recvC (c : Dev nD) (r : Fin 31) : GSem nD τ sig := kcell (c, rRecv r)

/-- The credit of one transfer, -/
def NB : ℕ := (planeT 0).view.dmaCredit
/-- and of the copy of `w`. -/
def NW : ℕ := (vM : Memref sig .tc .vmem S1024x1024 .f32).view.dmaCredit
/-- A block's copy counts for something. -/
theorem NB_pos : 0 < NB := by unfold NB; exact View.dmaCredit_pos _ (by decide)
/-- So does the weights'. -/
theorem NW_pos : 0 < NW := by unfold NW; exact View.dmaCredit_pos _ (by decide)
attribute [irreducible] NB NW

/-! ## What passes -/

/-- Row block `t` of device `c`'s staged `x`. -/
def rowPts (c t : Dev nD) : sProp 𝕄 :=
  (rowsT t).view.loc (c : Thread nD τ) ↦[(rowsT t).view.set]{fullShare} xstg m ρ c
/-- Plane `s` of device `d`'s gathering buffer. -/
def planePts (d s : Dev nD) (f : Buf (Elt F) ((planeT s).view.loc (d : Thread nD τ))) : sProp 𝕄 :=
  (planeT s).view.loc (d : Thread nD τ) ↦[(planeT s).view.set]{fullShare} f
/-- Device `c`'s copy of `w` in its memory, -/
def wPts (c : Dev nD) : sProp 𝕄 :=
  (wM : Memref sig .tc .hbm S1024x1024 .f32).view.loc (c : Thread nD τ) ↦[(wM : Memref sig .tc .hbm S1024x1024 .f32).view.set]{fullShare} wbuf m ρ c
/-- and the buffer it copies that to. -/
def vPts (c : Dev nD) (f : Buf (Elt F) ((vM : Memref sig .tc .vmem S1024x1024 .f32).view.loc (c : Thread nD τ))) : sProp 𝕄 :=
  (vM : Memref sig .tc .vmem S1024x1024 .f32).view.loc (c : Thread nD τ) ↦[(vM : Memref sig .tc .vmem S1024x1024 .f32).view.set]{fullShare} f

omit [FloatOps F] in
/-- A row block may be a payload, -/
instance rowPts_storable (c t : Dev nD) : BI.Storable (upEmb : UEmb _ 𝕄) (rowPts (F := F) m ρ c t) := by unfold rowPts; infer_instance
omit [FloatOps F] in
/-- so may a plane, -/
instance planePts_storable (d s : Dev nD) (f) : BI.Storable (upEmb : UEmb _ 𝕄) (planePts (F := F) d s f) := by unfold planePts; infer_instance
omit [FloatOps F] in
/-- the array of weights, -/
instance wPts_storable (c : Dev nD) : BI.Storable (upEmb : UEmb _ 𝕄) (wPts (F := F) m ρ c) := by unfold wPts; infer_instance
omit [FloatOps F] in
/-- and its buffer. -/
instance vPts_storable (c : Dev nD) (f) : BI.Storable (upEmb : UEmb _ 𝕄) (vPts (F := F) c f) := by unfold vPts; infer_instance

/-- What a duty of a role's cell on device `c` hands over. -/
def payOf (c : Dev nD) (d : Fin 31) : Option Role → sProp 𝕄
  | some (.inl _) => iprop(∃ f, planePts (peer c d) c f)
  | some (.inr (.inl _)) => iprop(vPts c (wbuf m ρ c) ∗ wPts m ρ c)
  | some (.inr (.inr (.inl r))) => rowPts m ρ c (peer c r)
  | some (.inr (.inr (.inr r))) => planePts c (peer c r.rev) (gath m ρ c)
  | none => iprop(emp)

/-- Who pays into a cell: all peers into the barrier, one payer into the others. -/
def dutiesOf : Option Role → Finset (Fin 31)
  | some (.inl _) => Finset.univ
  | some (.inr _) => {0}
  | none => ∅

/-- How much each pays. -/
def amountOf : Option Role → ℕ
  | some (.inr (.inl _)) => NW
  | some (.inr (.inr _)) => NB
  | _ => 1

/-- Every payment is positive. -/
theorem amountOf_pos : ∀ k, 0 < amountOf k
  | some (.inl _) => Nat.one_pos
  | some (.inr (.inl _)) => by rw [amountOf]; exact NW_pos
  | some (.inr (.inr _)) => by rw [amountOf]; exact NB_pos
  | none => Nat.one_pos

/-- One round. -/
def sched : Rounds.Schedule (GSem nD τ sig) (Fin 31) 𝕄 where
  duties g r := if r = 0 ∧ g.1.2 = .tc then dutiesOf (roleOf g.2) else ∅
  unitless _ := False
  amount g _ _ := amountOf (roleOf g.2)
  payload g _ d := payOf m ρ g.1.1 d (roleOf g.2)
  amount_pos g _ _ _ := amountOf_pos _

omit [FloatOps F] in
/-- Every payload may be stored. -/
theorem payOf_storable (c : Dev nD) (d : Fin 31) : ∀ k, BI.Storable (upEmb : UEmb _ 𝕄) (payOf m ρ c d k)
  | some (.inl _) => by unfold payOf; infer_instance
  | some (.inr (.inl _)) => by unfold payOf; infer_instance
  | some (.inr (.inr (.inl _))) => by unfold payOf; infer_instance
  | some (.inr (.inr (.inr _))) => by unfold payOf; infer_instance
  | none => by unfold payOf; infer_instance

/-- The schedule's payloads may be stored. -/
instance sched_storable (g : GSem nD τ sig) (r : ℕ) (d : Fin 31) :
    BI.Storable (upEmb : UEmb _ 𝕄) ((sched (F := F) m ρ).payload g r d) := payOf_storable m ρ _ _ _

section Sched
variable (c : Dev nD) (k : Role)

omit [FloatOps F] in
/-- The duties of a cell's one round. -/
theorem duties_cell : (sched (F := F) m ρ).duties (kcell (c, k)) 0 = dutiesOf (some k) := by
  dsimp only [sched]; rw [if_pos ⟨rfl, rfl⟩, roleOf_csem]
omit [FloatOps F] in
/-- There is no second round. -/
theorem duties_later (g : GSem nD τ sig) : ∀ r, 1 ≤ r → (sched (F := F) m ρ).duties g r = ∅ :=
  fun r hr => by dsimp only [sched]; rw [if_neg fun h => by omega]
omit [FloatOps F] in
/-- The amount of a duty. -/
theorem amount_cell (d : Fin 31) : (sched (F := F) m ρ).amount (kcell (c, k)) 0 d = amountOf (some k) := by
  dsimp only [sched]; rw [roleOf_csem]
omit [FloatOps F] in
/-- The payload of a duty. -/
theorem payload_cell (d : Fin 31) : (sched (F := F) m ρ).payload (kcell (c, k)) 0 d = payOf m ρ c d (some k) := by
  dsimp only [sched]; rw [roleOf_csem]

omit [FloatOps F] in
/-- The barrier expects thirty-one signals. -/
theorem expect_bar : (sched (F := F) m ρ).expect (barC c) 0 = 31 := by
  unfold Schedule.expect Schedule.amountOf
  rw [duties_cell, Finset.sum_congr rfl fun d _ => amount_cell m ρ c rBar d]
  decide
omit [FloatOps F] in
/-- A cell of the kernel's own expects its one duty's units, -/
theorem expect_own (o : Own) : (sched (F := F) m ρ).expect (kcell (c, .inr o)) 0 = amountOf (some (.inr o)) := by
  unfold Schedule.expect Schedule.amountOf
  rw [duties_cell]; exact (Finset.sum_singleton _ _).trans (amount_cell m ρ c _ _)

omit [FloatOps F] in
/-- and hands over that duty's payload. -/
theorem rest_own (o : Own) : bigSep ((sched (F := F) m ρ).duties (kcell (c, .inr o)) 0 \ ∅) (fun d => (sched (F := F) m ρ).payload (kcell (c, .inr o)) 0 d)
    = payOf m ρ c 0 (some (.inr o)) := by
  rw [Finset.sdiff_empty, duties_cell, ← payload_cell]; exact bigSep_singleton
omit [FloatOps F] in
/-- The barrier cell hands over a plane on each peer. -/
theorem rest_bar : bigSep ((sched (F := F) m ρ).duties (barC c) 0 \ ∅) (fun d => (sched (F := F) m ρ).payload (barC c) 0 d)
    = bigSep Finset.univ fun r : Fin 31 => iprop(∃ f, planePts (F := F) (peer c r) c f) := by
  rw [Finset.sdiff_empty, duties_cell]
  exact bigSep_congr fun d _ => payload_cell m ρ c rBar d

end Sched

/-! ## What each device owes at launch; the levels -/

/-- The units owed for the transfers over a list of distances, -/
def owedSends (c : Dev nD) (l : List (Fin 31)) : CellTallies nD τ sig Unit :=
  l.foldr (fun r O => O + tallyAt (recvC (peer c r) r) () NB) 0
/-- and for the signals over one, before those. -/
def owedSignals (c : Dev nD) (l : List (Fin 31)) : CellTallies nD τ sig Unit :=
  l.foldr (fun r O => O + tallyAt (barC (peer c r)) () 1) (owedSends c outwards)
/-- All a device owes at launch. -/
abbrev owed₀ (c : Dev nD) : CellTallies nD τ sig Unit := owedSignals c rising

/-- The one level index, on the TensorCores. -/
def L (g : GSem nD τ sig) : Finset Unit := if g.1.2 = .tc then {()} else ∅
/-- The level of each role: the barrier below the receives, everything else at the bottom. -/
def lvOf : Option Role → ℕ
  | some (.inl _) => 1
  | some (.inr (.inr (.inr _))) => 2
  | _ => 0
/-- Barrier cells at 1, receive cells at 2, everything else at 0. -/
def lv (g : GSem nD τ sig) (_ : Unit) : ℕ := lvOf (roleOf g.2)

/-- Other threads have no level. -/
theorem L_of_ne (g : GSem nD τ sig) (h : g.1.2 ≠ .tc) : L g = ∅ := if_neg h
/-- A TensorCore's cell has the one. -/
theorem L_tc (c : Dev nD) (sm : SemLoc sig) : L ((c : Thread nD τ), sm) = {()} := if_pos rfl

/-- A debt at one cell is owed to that cell only. -/
theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- What sends owe, they owe to receive cells of peers. -/
theorem owedSends_pos (c : Dev nD) {g : GSem nD τ sig} {u : Unit} : ∀ l : List (Fin 31), 0 < owedSends c l g u → ∃ r, g = recvC (peer c r) r
  | [], h => absurd h (Nat.lt_irrefl 0)
  | r :: l, h => by
    have h' : 0 < owedSends c l g u + (tallyAt (recvC (peer c r) r) () NB : CellTallies nD τ sig Unit) g u := h
    rcases Nat.eq_zero_or_pos (owedSends c l g u) with h0 | h0
    · rw [h0, Nat.zero_add] at h'; exact ⟨r, tallyAt_pos h'⟩
    · exact owedSends_pos c l h0

/-- What signals and sends owe, they owe to barriers or receive cells of peers. -/
theorem owedSignals_pos (c : Dev nD) {g : GSem nD τ sig} {u : Unit} :
    ∀ l : List (Fin 31), 0 < owedSignals c l g u → (∃ r, g = recvC (peer c r) r) ∨ ∃ r, g = barC (peer c r)
  | [], h => .inl (owedSends_pos c outwards h)
  | r :: l, h => by
    have h' : 0 < owedSignals c l g u + (tallyAt (barC (peer c r)) () 1 : CellTallies nD τ sig Unit) g u := h
    rcases Nat.eq_zero_or_pos (owedSignals c l g u) with h0 | h0
    · rw [h0, Nat.zero_add] at h'; exact .inr ⟨r, tallyAt_pos h'⟩
    · exact owedSignals_pos c l h0

/-- A cell's level is its role's. -/
theorem lv_cell (c : Dev nD) (k : Role) (u : Unit) : lv (kcell (c, k)) u = lvOf (some k) := by unfold lv; rw [roleOf_csem]

omit [FloatOps F] in
/-- A semaphore at level 0 may be waited for under all a device owes at launch, or under nothing. -/
theorem mayWait_low (c : Dev nD) (sm : SemLoc sig) (hs : lvOf (roleOf sm) = 0) (O : CellTallies nD τ sig Unit) (hO : O = owed₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases owedSignals_pos c rising hg with ⟨r, rfl⟩ | ⟨r, rfl⟩ <;> exact Finset.mem_singleton_self _)
      (fun p hp => by rw [Finset.mem_singleton.mp hp]; exact Nat.le_of_eq hs)
      (fun g u hg => by
        rcases owedSignals_pos c rising hg with ⟨r, rfl⟩ | ⟨r, rfl⟩
        · rw [lv_cell]; exact Nat.two_pos
        · rw [lv_cell]; exact Nat.one_pos)
  · rw [MayWait_zero]; iintro -; iempintro

omit [FloatOps F] in
/-- At its barrier wait a device owes transfers only, and those are above its barrier cell. -/
theorem mayWait_bar (c : Dev nD) (l : List (Fin 31)) :
    (levAts L lv : sProp 𝕄) ⊢ MayWait (c : Thread nD τ) (.reg barS) () (owedSends c l) :=
  MayOwe.of_cut (L := L) (lev := lv) 1 (fun p hp => by rw [Finset.mem_singleton.mp hp, L_tc]; exact Finset.mem_singleton_self _)
    (fun g u hg => by obtain ⟨r, rfl⟩ := owedSends_pos c l hg; exact Finset.mem_singleton_self _)
    (fun p hp => by rw [Finset.mem_singleton.mp hp]; exact Nat.le_refl 1)
    (fun g u hg => by obtain ⟨r, rfl⟩ := owedSends_pos c l hg; rw [lv_cell]; exact Nat.lt_succ_self 1)

end Cert.A2A

end
-- ==== Proof.Steps.lean ====
/-
# One step of each run, and the run

A signal, a transfer, a wait for an arrival and a wait for a departure, each proved once at any distance; then each run
over the peers, by induction over its list of distances.
-/
module

public import proofs.«01_k».proof.Proof.Protocol
public import Idealize.ShloMosaic.Lib.Pipeline.BigSepL

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop needs a variant. -/
abbrev 𝒱₀ : Variants := Variants.none

/-- Running a program of the kernel on device `c` to a post. -/
abbrev runs (c : Dev nD) (p : KProg F) (Q : PUnit → sProp 𝕄) : sProp 𝕄 :=
  wp frame (wpE (defs₀ (F := F)) 𝒱₀ (c : Thread nD τ) none) Set.univ p Q

/-- What device `c` owes, whatever it has waited for. -/
def owesAny (c : Dev nD) (O : CellTallies nD τ sig Unit) : sProp 𝕄 := iprop(∃ W, owes (c : Thread nD τ) O W)

/-! ## The records every device has: all cells' invariants, all cells at round 0 -/

omit [FloatOps F] in
/-- One member of a family over every cell. -/
theorem pick (Φ : Dev nD × Role → sProp 𝕄) (ck : Dev nD × Role) : (bigSep Finset.univ Φ : sProp 𝕄) ⊢ Φ ck := bigSep_elim (Finset.mem_univ ck)

/-- The shared records: every cell's invariant, and that its round is reached. -/
def records (K : Dev nD × Role → ℕ) : sProp 𝕄 :=
  iprop((bigSep Finset.univ fun ck : Dev nD × Role => cellInv ER (sched m ρ) (K ck) (kcell ck))
    ∗ bigSep Finset.univ fun ck : Dev nD × Role => reached ER (kcell ck) 0)

omit [FloatOps F] in
/-- They may be used any number of times. -/
instance records_persistent (K : Dev nD × Role → ℕ) : BI.Persistent (records (F := F) m ρ K) := by unfold records; infer_instance

variable (K : Dev nD × Role → ℕ)

omit [FloatOps F] in
/-- One cell's invariant, -/
theorem inv_at (ck : Dev nD × Role) : records m ρ K ⊢ (cellInv ER (sched (F := F) m ρ) (K ck) (kcell ck) : sProp 𝕄) := by
  unfold records
  iintro ⟨HI, -⟩
  iapply (pick (F := F) (fun ck : Dev nD × Role => (cellInv ER (sched (F := F) m ρ) (K ck) (kcell ck) : sProp 𝕄)) ck); iexact HI
omit [FloatOps F] in
/-- and one cell's reached round. -/
theorem reached_at (ck : Dev nD × Role) : records m ρ K ⊢ (reached ER (kcell ck) 0 : sProp 𝕄) := by
  unfold records
  iintro ⟨-, HR⟩
  iapply (pick (F := F) (fun ck : Dev nD × Role => (reached ER (kcell ck) 0 : sProp 𝕄)) ck); iexact HR

/-! ## Signals -/

omit [FloatOps F] in
/-- What a signal to a peer carries: the plane of the sender's buffer the peer writes. -/
theorem pay_signal (c : Dev nD) (r : Fin 31) :
    (sched (F := F) m ρ).payload (barC (peer c r)) 0 r.rev = iprop(∃ f, planePts c (peer c r) f) := by
  refine (payload_cell m ρ (peer c r) rBar r.rev).trans ?_
  dsimp only [payOf]; rw [peer_rev]

omit [FloatOps F] in
/-- What a transfer gives back once it has left: the rows it read; -/
theorem pay_depart (c : Dev nD) (r : Fin 31) : (sched (F := F) m ρ).payload (sendC c r) 0 0 = rowPts m ρ c (peer c r) :=
  payload_cell m ρ c (rSend r) 0
omit [FloatOps F] in
/-- and once it has landed: the plane at the peer, filled. -/
theorem pay_arrive (c : Dev nD) (r : Fin 31) :
    (sched (F := F) m ρ).payload (recvC (peer c r) r) 0 0 = planePts (peer c r) c (gath m ρ (peer c r)) := by
  refine (payload_cell m ρ (peer c r) (rRecv r) 0).trans ?_
  dsimp only [payOf]; rw [peer_rev]

/-- One signal to a peer's barrier hands over the plane that the peer will fill. -/
theorem signal_one (c : Dev nD) (r : Fin 31) (O : CellTallies nD τ sig Unit) (k : KProg F) (Q : PUnit → sProp 𝕄) :
    iprop(records m ρ K ∗ owesAny c (O + tallyAt (barC (peer c r)) () 1)
        ∗ dutyTok ER (barC (peer c r)) 0 r.rev ∗ (∃ f, planePts c (peer c r) f))
      ⊢ iprop((owesAny c O -∗ runs c k Q) -∗ runs c (signalStep c r k) Q) := by
  unfold signalStep owesAny
  rw [peerK_eq]
  iintro ⟨#HR, ⟨%W, HO⟩, Ht, Hp⟩ Hk
  iapply (Rounds.wp_signal 𝒱₀ ER (sched m ρ) (c : Thread nD τ) none (dst := (peer c r : Thread nD τ)) (κ := K (peer c r, rBar))
      (d := r.rev) ((duties_cell m ρ (peer c r) rBar).symm ▸ Finset.mem_univ _) ((amount_cell m ρ (peer c r) rBar r.rev).trans (by decide)) () O rfl)
    $$ [HO Ht Hp]
  · isplitr; · iapply (inv_at m ρ K (peer c r, rBar)); iexact HR
    isplitl [HO]; · iexact HO
    isplitl [Ht]; · iexact Ht
    isplitl [Hp]
    · iapply (Entails.of_eq (pay_signal m ρ c r).symm); iexact Hp
    iapply (reached_at m ρ K (peer c r, rBar)); iexact HR
  iintro HO
  iapply Hk
  iexists W; iexact HO

/-- All signals of a list, one after another. -/
theorem signal_run (c : Dev nD) (k : KProg F) (Q : PUnit → sProp 𝕄) : ∀ l : List (Fin 31),
    iprop(records m ρ K ∗ owesAny c (owedSignals c l)
        ∗ bigSepL l (fun r => iprop(dutyTok ER (barC (peer c r)) 0 r.rev ∗ (∃ f, planePts c (peer c r) f))))
      ⊢ iprop((owesAny c (owedSends c outwards) -∗ runs c k Q) -∗ runs c (l.foldr (signalStep c) k) Q)
  | [] => by
    iintro ⟨-, HO, -⟩ Hk
    iapply Hk; iexact HO
  | r :: l => by
    rw [bigSepL_cons', List.foldr_cons]
    iintro ⟨#HR, HO, ⟨Ht, Hp⟩, Hl⟩ Hk
    iapply (signal_one m ρ K c r (owedSignals c l) _ Q) $$ [HO Ht Hp]
    · isplitr; · iexact HR
      isplitl [HO]; · iexact HO
      isplitl [Ht] <;> iassumption
    iintro HO
    iapply (signal_run c k Q l) $$ [HO Hl]
    · isplitr; · iexact HR
      isplitl [HO]; · iexact HO
      first | iexact Hn | iexact Hl
    iexact Hk

/-! ## Transfers -/

/-- A plane's copy counts one block. -/
theorem NB_eq (s : Dev nD) : (planeT s).view.dmaCredit = NB := by unfold NB; rfl

/-- What lands in a peer's plane is what the peer's receive cell is due. -/
theorem landing (c : Dev nD) (r : Fin 31) (f : Buf (Elt F) ((planeT c).view.loc (peer c r : Thread nD τ))) :
    ((planeT c).view.loc (peer c r : Thread nD τ) ↦[(planeT c).view.set]{fullShare}
        ((planeT c).view.write (Elt F) f ((rowsT (peer c r)).view.read (Elt F) (xstg m ρ c)) Finset.univ) : sProp 𝕄)
      ⊢ (sched (F := F) m ρ).payload (recvC (peer c r) r) 0 0 := by
  rw [pay_arrive]
  unfold planePts
  exact Entails.of_eq (pointsTo_congr fun i hi => landed m ρ c (peer c r) f i hi)

/-- The row block that leaves is what the send cell gives back. -/
theorem departing (c : Dev nD) (r : Fin 31) :
    ((rowsT (peer c r)).view.loc (c : Thread nD τ) ↦[(rowsT (peer c r)).view.set]{fullShare} xstg m ρ c : sProp 𝕄)
      ⊢ (sched (F := F) m ρ).payload (sendC c r) 0 0 := by
  rw [pay_depart]
  unfold rowPts
  exact BI.Entails.refl _

omit [FloatOps F] in
/-- The one duty of a cell of the device's own. -/
theorem duty_own (c : Dev nD) (o : Own) : (0 : Fin 31) ∈ (sched (F := F) m ρ).duties (kcell (c, .inr o)) 0 := by
  rw [duties_cell]; exact Finset.mem_singleton_self _

/-- One send, source and target named by what they are equal to. -/
theorem send_one' (c : Dev nD) (r : Fin 31) (n : Dev nD) (hn : n = peer c r) (src : Memref sig .tc .vmem S32x32 .f32) (hs : src = rowsT (peer c r))
    {hsc : (planeT c : Memref sig (Dev.tc n : Thread nD τ).2.kind .vmem S32x32 .f32).view.ref.isScScratch = false}
    {hsrc : src.view.WordExact} {hdst : (planeT c).view.WordExact}
    {hsem : DmaTarget.Typed .vmem (.dma (semAt cc0_scratch3 r)) (.remote (Dev.tc n : Thread nD τ) (planeT c) (.dma (semAt cc0_scratch2 r)) hsc)}
    (O : CellTallies nD τ sig Unit) (W : Waits sig Unit) (k : KProg F) (Q : PUnit → sProp 𝕄)
    (f : Buf (Elt F) ((planeT c).view.loc (peer c r : Thread nD τ))) :
    iprop(cellInv ER (sched m ρ) (K (c, rSend r)) (sendC c r) ∗ cellInv ER (sched m ρ) (K (peer c r, rRecv r)) (recvC (peer c r) r)
        ∗ rowPts m ρ c (peer c r) ∗ planePts (peer c r) c f ∗ owes (c : Thread nD τ) (O + tallyAt (recvC (peer c r) r) () NB) W
        ∗ dutyTok ER (sendC c r) 0 0 ∗ reached ER (sendC c r) 0 ∗ dutyTok ER (recvC (peer c r) r) 0 0 ∗ reached ER (recvC (peer c r) r) 0)
      ⊢ iprop(((cred (tallyAt (sendC c r) () NB) ∗ owes (c : Thread nD τ) O W) -∗ runs c k Q)
          -∗ runs c (.op (.enqueueDma src (.remote (Dev.tc n : Thread nD τ) (planeT c) (.dma (semAt cc0_scratch2 r)) hsc) (.dma (semAt cc0_scratch3 r)) hsrc hdst hsem) fun _ => k) Q) := by
  subst hn hs
  unfold rowPts planePts
  exact Rounds.wp_send_pointsTo 𝒱₀ ER (sched m ρ) (c : Thread nD τ) none (sS := .dma (semAt cc0_scratch2 r)) (sem := .dma (semAt cc0_scratch3 r)) (k := fun _ => k)
    (defs := defs₀ (F := F)) (Q := Q) (hsc := hsc) (hsrc := hsrc) (hdst := hdst) (hsem := hsem) (Es := Set.univ)
    (κ₁ := K (c, rSend r)) (κ₂ := K (peer c r, rRecv r))
    (r₁ := 0) (r₂ := 0) (d₁ := 0) (d₂ := 0) (fd := f)
    (duty_own m ρ c (.inr (.inl r))) (duty_own m ρ (peer c r) (.inr (.inr r)))
    () () NB (NB_eq c) (amount_cell m ρ c (rSend r) 0) (amount_cell m ρ (peer c r) (rRecv r) 0) O rfl (W := W)
    (departing m ρ c r) (landing m ρ c r f)

/-- What a device brings to a transfer. -/
def sendNeeds (c : Dev nD) (r : Fin 31) : sProp 𝕄 :=
  iprop(dutyTok ER (sendC c r) 0 0 ∗ dutyTok ER (recvC (peer c r) r) 0 0 ∗ rowPts m ρ c (peer c r) ∗ (∃ f, planePts (peer c r) c f))

/-- One send, as the kernel writes it. -/
theorem send_one (c : Dev nD) (r : Fin 31) (O : CellTallies nD τ sig Unit) (k : KProg F) (Q : PUnit → sProp 𝕄) :
    iprop(records m ρ K ∗ owesAny c (O + tallyAt (recvC (peer c r) r) () NB) ∗ sendNeeds m ρ c r)
      ⊢ iprop(((cred (tallyAt (sendC c r) () NB) ∗ owesAny c O) -∗ runs c k Q)
          -∗ runs c (sendStep xM gM cc0_scratch2 cc0_scratch3 c r k) Q) := by
  unfold sendStep sendNeeds owesAny
  iintro ⟨#HR, ⟨%W, HO⟩, HtS, HtV, Hrow, ⟨%f, Hp⟩⟩ Hk
  iapply (send_one' m ρ K c r _ (peerK_eq c r) _ (rowsK_eq c r) O W k Q f) $$ [HO HtS HtV Hrow Hp]
  · isplitr; · iapply (inv_at m ρ K (c, rSend r)); iexact HR
    isplitr; · iapply (inv_at m ρ K (peer c r, rRecv r)); iexact HR
    isplitl [Hrow]; · iexact Hrow
    isplitl [Hp]; · iexact Hp
    isplitl [HO]; · iexact HO
    isplitl [HtS]; · iexact HtS
    isplitr; · iapply (reached_at m ρ K (c, rSend r)); iexact HR
    isplitl [HtV]; · iexact HtV
    iapply (reached_at m ρ K (peer c r, rRecv r)); iexact HR
  iintro ⟨Hc, HO⟩
  iapply Hk
  isplitl [Hc]; · iexact Hc
  iexists W; iexact HO

/-- All sends of a list, one after another. -/
theorem send_run (c : Dev nD) (k : KProg F) (Q : PUnit → sProp 𝕄) : ∀ l : List (Fin 31),
    iprop(records m ρ K ∗ owesAny c (owedSends c l) ∗ bigSepL l (sendNeeds m ρ c))
      ⊢ iprop(((bigSepL l (fun r => cred (tallyAt (sendC c r) () NB)) ∗ owesAny c 0) -∗ runs c k Q)
          -∗ runs c (l.foldr (sendStep xM gM cc0_scratch2 cc0_scratch3 c) k) Q)
  | [] => by
    rw [bigSepL_nil]
    iintro ⟨-, HO, -⟩ Hk
    iapply Hk
    isplitr; · iempintro
    iexact HO
  | r :: l => by
    rw [bigSepL_cons', bigSepL_cons', List.foldr_cons]
    iintro ⟨#HR, HO, Hn, Hl⟩ Hk
    iapply (send_one m ρ K c r (owedSends c l) _ Q) $$ [HO Hn]
    · isplitr; · iexact HR
      isplitl [HO]; · iexact HO
      first | iexact Hn | iexact Hl
    iintro ⟨Hc, HO⟩
    iapply (send_run c k Q l) $$ [HO Hl]
    · isplitr; · iexact HR
      isplitl [HO]; · iexact HO
      first | iexact Hn | iexact Hl
    iintro ⟨Hcl, HO⟩
    iapply Hk
    isplitl [Hc Hcl]
    · isplitl [Hc] <;> iassumption
    iexact HO

/-! ## Waits on a cell of the kernel's own -/

/-- A wait for the one duty of a cell of the kernel's own, owing nothing: the duty's payload, and the cell's counter at
    zero, closed. -/
theorem wait_own (c : Dev nD) (o : Own) (q : DmaSem sig) (hq : osem o = .dma q) {s : Shape} {sp sp' : Space} {e : EltTy}
    (src : Memref sig .tc sp s e) (dst : Memref sig .tc sp' s e) {hsrc : src.view.WordExact} {hdst : dst.view.WordExact}
    (hN : dst.view.dmaCredit = amountOf (some (.inr o))) (k : KProg F) (Q : PUnit → sProp 𝕄) :
    iprop(records m ρ K ∗ owesAny c 0 ∗ cred (tallyAt (kcell (c, .inr o)) () (amountOf (some (.inr o)))) ∗ atPos ER (kcell (c, .inr o)) 0 ∅ 0)
      ⊢ iprop(((owesAny c 0 ∗ payOf m ρ c 0 (some (.inr o)) ∗ semVal (kcell (c, .inr o)) 0) -∗ runs c k Q)
          -∗ runs c (.op (.waitDma2 q src dst hsrc hdst) fun _ => k) Q) := by
  have hc : kcell (c, .inr o) = ((c : Thread nD τ), SemLoc.dma q) := by rw [← hq]
  have hi := inv_at m ρ K (c, .inr o)
  have he := expect_own m ρ c o
  have hr := rest_own m ρ c o
  rw [hc] at hi he hr ⊢
  unfold owesAny
  iintro ⟨#HR, ⟨%W, HO⟩, Hc, Hat⟩ Hk
  iapply (Rounds.wp_wait_rest_token 𝒱₀ ER (sched m ρ) (c : Thread nD τ) none (κ := K (c, .inr o))
      (wpE_waitDma2_eq 𝒱₀ (c : Thread nD τ) none Set.univ) (Set.mem_univ _) () (O := 0) (W := W) (R := 0) (m := 0) (T := ∅)
      (by rw [Nat.zero_add, he]; exact hN)) $$ [Hc HO Hat]
  · isplitr; · iapply hi; iexact HR
    isplitl [Hc]; · rw [hN]; iexact Hc
    isplitl [HO]; · iexact HO
    isplitr; · rw [MayWait_zero]; iempintro
    iexact Hat
  iintro ⟨HO, Hat, -, Hpay⟩
  ihave Hp := (Entails.of_eq hr) $$ Hpay
  imod (Rounds.cell_close ER (sched m ρ) (Set.mem_univ (K (c, .inr o))) (fun h => h) (R := 0 + 1) (duties_later m ρ ((c : Thread nD τ), SemLoc.dma q))) $$ [Hat] with Hz
  · isplitr; · iapply hi; iexact HR
    iexact Hat
  iapply Hk
  isplitl [HO]; · iexists _; iexact HO
  isplitl [Hp] <;> iassumption

/-- What a wait for an arrival needs, -/
def recvNeeds (c : Dev nD) (r : Fin 31) : sProp 𝕄 := iprop(cred (tallyAt (recvC c r) () NB) ∗ atPos ER (recvC c r) 0 ∅ 0)
/-- and gives. -/
def recvGives (c : Dev nD) (r : Fin 31) : sProp 𝕄 := iprop(planePts c (peer c r.rev) (gath m ρ c) ∗ semVal (recvC c r) 0)
/-- What a wait for a departure needs, -/
def sentNeeds (c : Dev nD) (r : Fin 31) : sProp 𝕄 := iprop(cred (tallyAt (sendC c r) () NB) ∗ atPos ER (sendC c r) 0 ∅ 0)
/-- and gives. -/
def sentGives (c : Dev nD) (r : Fin 31) : sProp 𝕄 := iprop(rowPts m ρ c (peer c r) ∗ semVal (sendC c r) 0)

/-- All receives of a list, one after another. -/
theorem recv_run (c : Dev nD) (k : KProg F) (Q : PUnit → sProp 𝕄) : ∀ l : List (Fin 31),
    iprop(records m ρ K ∗ owesAny c 0 ∗ bigSepL l (recvNeeds (F := F) c))
      ⊢ iprop(((owesAny c 0 ∗ bigSepL l (recvGives m ρ c)) -∗ runs c k Q)
          -∗ runs c (l.foldr (recvStep xM gM cc0_scratch3 c) k) Q)
  | [] => by
    rw [bigSepL_nil]
    iintro ⟨-, HO, -⟩ Hk
    iapply Hk
    isplitl [HO]; · iexact HO
    iempintro
  | r :: l => by
    rw [bigSepL_cons', bigSepL_cons', List.foldr_cons]
    iintro ⟨#HR, HO, Hn, Hl⟩ Hk
    unfold recvStep
    iapply (wait_own m ρ K c (.inr (.inr r)) (semAt cc0_scratch3 r) rfl (wsrcK xM c r) (wdstK gM c r) (by rw [amountOf]; unfold NB; rfl) _ Q) $$ [HO Hn]
    · isplitr; · iexact HR
      isplitl [HO]; · iexact HO
      unfold recvNeeds; rw [amountOf]; iexact Hn
    iintro ⟨HO, Hp⟩
    iapply (recv_run c k Q l) $$ [HO Hl]
    · isplitr; · iexact HR
      isplitl [HO]; · iexact HO
      first | iexact Hn | iexact Hl
    iintro ⟨HO, Hg⟩
    iapply Hk
    isplitl [HO]; · iexact HO
    isplitl [Hp]
    · unfold recvGives payOf; iexact Hp
    iexact Hg

/-- All completions of sends of a list, one after another. -/
theorem sent_run (c : Dev nD) (k : KProg F) (Q : PUnit → sProp 𝕄) : ∀ l : List (Fin 31),
    iprop(records m ρ K ∗ owesAny c 0 ∗ bigSepL l (sentNeeds (F := F) c))
      ⊢ iprop(((owesAny c 0 ∗ bigSepL l (sentGives m ρ c)) -∗ runs c k Q)
          -∗ runs c (l.foldr (sentStep xM gM cc0_scratch2 c) k) Q)
  | [] => by
    rw [bigSepL_nil]
    iintro ⟨-, HO, -⟩ Hk
    iapply Hk
    isplitl [HO]; · iexact HO
    iempintro
  | r :: l => by
    rw [bigSepL_cons', bigSepL_cons', List.foldr_cons]
    iintro ⟨#HR, HO, Hn, Hl⟩ Hk
    unfold sentStep
    iapply (wait_own m ρ K c (.inr (.inl r)) (semAt cc0_scratch2 r) rfl (planeK gM c) (rowsK xM c r) (by rw [amountOf]; unfold NB; rfl) _ Q) $$ [HO Hn]
    · isplitr; · iexact HR
      isplitl [HO]; · iexact HO
      unfold sentNeeds; rw [amountOf]; iexact Hn
    iintro ⟨HO, Hp⟩
    iapply (sent_run c k Q l) $$ [HO Hl]
    · isplitr; · iexact HR
      isplitl [HO]; · iexact HO
      first | iexact Hn | iexact Hl
    iintro ⟨HO, Hg⟩
    iapply Hk
    isplitl [HO]; · iexact HO
    isplitl [Hp]
    · unfold sentGives payOf; iexact Hp
    iexact Hg

end Cert.A2A

end
-- ==== Proof.Body.lean ====
/-
# The kernel's body on one device

From its start — the records, its positions, the tokens of the duties it pays, its credits, its memory — to its end: the
product in the result's staging buffer, and every cell's counter at zero.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Role → ℕ)

/-! ## Families over the roles and over the distances -/

omit [FloatOps F] in
/-- A family over the one-element type is its one member. -/
theorem unit_one (Φ : Unit → sProp 𝕄) : bigSep Finset.univ Φ = Φ () := bigSep_singleton

omit [FloatOps F] in
/-- A family over the roles: the barrier, the weight copy, the sends and the receives. -/
theorem role_split (Φ : Role → sProp 𝕄) : bigSep Finset.univ Φ
    = iprop(Φ rBar ∗ Φ rCopy ∗ (bigSep Finset.univ fun r => Φ (rSend r)) ∗ bigSep Finset.univ fun r => Φ (rRecv r)) := by
  rw [BI.bigSep_univ_sum Φ, unit_one, BI.bigSep_univ_sum fun o : Own => Φ (.inr o), unit_one, BI.bigSep_univ_sum fun x : Fin 31 ⊕ Fin 31 => Φ (.inr (.inr x))]
  rfl

omit [FloatOps F] in
/-- A family over a device's own cells: the weight copy, the sends and the receives. -/
theorem own_split (Φ : Own → sProp 𝕄) : bigSep Finset.univ Φ
    = iprop(Φ (.inl ()) ∗ (bigSep Finset.univ fun r => Φ (.inr (.inl r))) ∗ bigSep Finset.univ fun r => Φ (.inr (.inr r))) := by
  rw [BI.bigSep_univ_sum Φ, unit_one, BI.bigSep_univ_sum fun x : Fin 31 ⊕ Fin 31 => Φ (.inr x)]
  rfl

omit [FloatOps F] in
/-- A family over the distances, listed in rising order. -/
theorem over_rising (Φ : Fin 31 → sProp 𝕄) : bigSep Finset.univ Φ = bigSepL rising Φ :=
  bigSep_univ_eq_bigSepL rising (by decide) (by decide) Φ
omit [FloatOps F] in
/-- A family over the distances, listed in the order in which the copies are started. -/
theorem over_outwards (Φ : Fin 31 → sProp 𝕄) : bigSep Finset.univ Φ = bigSepL outwards Φ :=
  bigSep_univ_eq_bigSepL outwards (by decide) (by decide) Φ

/-! ## The buffers and their pieces -/

/-- The gathering buffer, -/
def gPts (c : Dev nD) (f : (cc0_scratch1 : Ref sig .tc).ty.Contents (Elt F)) : sProp 𝕄 := ((c : Thread nD τ).loc cc0_scratch1) ↦{fullShare} f
/-- the staged `x`, -/
def xPts (c : Dev nD) : sProp 𝕄 := ((c : Thread nD τ).loc cc0_stg0_0) ↦{fullShare} xstg m ρ c
/-- the staged result. -/
def oPts (c : Dev nD) (f : (cc0_stg1_0 : Ref sig .tc).ty.Contents (Elt F)) : sProp 𝕄 := ((c : Thread nD τ).loc cc0_stg1_0) ↦{fullShare} f

omit [FloatOps F] in
/-- The gathered buffer is its planes: the device's own and one for each peer. -/
theorem gPts_split (c : Dev nD) (f : (cc0_scratch1 : Ref sig .tc).ty.Contents (Elt F)) :
    (gPts c f : sProp 𝕄) = iprop(planePts c c f ∗ bigSep Finset.univ fun r : Fin 31 => planePts c (peer c r) f) := by
  rw [← bigSep_peers c fun s => (planePts c s f : sProp 𝕄)]
  unfold gPts planePts
  exact Ring.pointsTo_blocks (ℓ := (c : Thread nD τ).loc cc0_scratch1) planeSet planeSet_disjoint planeSet_cover f

omit [FloatOps F] in
/-- The staged `x` is its row blocks: the device's own and one for each peer. -/
theorem xPts_split (c : Dev nD) :
    (xPts m ρ c : sProp 𝕄) = iprop(rowPts m ρ c c ∗ bigSep Finset.univ fun r : Fin 31 => rowPts m ρ c (peer c r)) := by
  rw [← bigSep_peers c fun t => (rowPts m ρ c t : sProp 𝕄)]
  unfold xPts rowPts
  exact Ring.pointsTo_blocks (ℓ := (c : Thread nD τ).loc cc0_stg0_0) rowSet rowSet_disjoint rowSet_cover (xstg m ρ c)

omit [FloatOps F] in
/-- Going the other way round the peers. -/
theorem over_rev (Φ : Fin 31 → sProp 𝕄) : bigSep Finset.univ (fun r : Fin 31 => Φ r.rev) = bigSep Finset.univ Φ :=
  (bigSep_univ_equiv Fin.revPerm Φ).symm

/-! ## The end of the kernel -/

/-- The kernel's result on device `c`. -/
def outAt (c : Dev nD) : (cc0_stg1_0 : Ref sig .tc).ty.Contents (Elt F) := k0_pay1 (gath m ρ c) (wbuf m ρ c)

/-- Two zero offsets, as a constant function. -/
theorem hz2 : (![0, 0] : Fin 2 → Nat) = fun _ => 0 := funext fun a => by fin_cases a <;> rfl
/-- Three zero offsets, as a constant function. -/
theorem hz3 : (![0, 0, 0] : Fin 3 → Nat) = fun _ => 0 := funext fun a => by fin_cases a <;> rfl

/-- The whole of the gathered buffer, as the kernel reads it. -/
abbrev rG : Rect S32x32x32 := Rect.unit (s := S32x32x32) ![0, 0, 0] S32x32x32.size inb_S32x32x32_S32x32x32_0_0_0
/-- The whole of the weight buffer, as the kernel reads it. -/
abbrev rV : Rect S1024x1024 := Rect.unit (s := S1024x1024) ![0, 0] S1024x1024.size inb_S1024x1024_S1024x1024_0_0
/-- The whole of the result's buffer, as the kernel writes it. -/
abbrev rO : Rect S32x1024 := Rect.unit (s := S32x1024) ![0, 0] S32x1024.size inb_S32x1024_S32x1024_0_0

omit [FloatOps F] in
/-- Reading the whole gathered buffer gives its contents. -/
theorem read_g (f : (cc0_scratch1 : Ref sig .tc).ty.Contents (Elt F)) : gM.view.readAt (Elt F) rG.toLoadRect f = f :=
  Memref.readAt_unit_zero (Elt F) cc0_scratch1 hz3 _ f
omit [FloatOps F] in
/-- Reading the whole weight buffer gives its contents. -/
theorem read_v (f : (cc0_scratch0 : Ref sig .tc).ty.Contents (Elt F)) : vM.view.readAt (Elt F) rV.toLoadRect f = f :=
  Memref.readAt_unit_zero (Elt F) cc0_scratch0 hz2 _ f
omit [FloatOps F] in
/-- Writing the whole result buffer leaves what is written. -/
theorem write_o (f w : (cc0_stg1_0 : Ref sig .tc).ty.Contents (Elt F)) :
    (oM.access rO : View sig .tc _ _ _).write (Elt F) f w Finset.univ = w :=
  Memref.write_access_unit_zero_univ (Elt F) cc0_stg1_0 hz2 _ f w

/-- The end of the kernel: wait for the weights, read both buffers, store the product. -/
theorem tail_run (c : Dev nD) (f : (cc0_stg1_0 : Ref sig .tc).ty.Contents (Elt F)) (Q : PUnit → sProp 𝕄) :
    iprop(records m ρ K ∗ owesAny c 0 ∗ gPts c (gath m ρ c) ∗ cred (tallyAt (copyC c) () NW) ∗ atPos ER (copyC c) 0 ∅ 0 ∗ oPts c f)
      ⊢ iprop(((owesAny c 0 ∗ gPts c (gath m ρ c) ∗ wPts m ρ c ∗ vPts c (wbuf m ρ c) ∗ semVal (copyC c) 0 ∗ oPts c (outAt m ρ c)) -∗ Q ⟨⟩)
          -∗ runs c (tailText wM (Memref.isWhole_whole _) oM vM (Memref.isWhole_whole _) gM cc0_scratch4) Q) := by
  unfold tailText gPts oPts
  iintro ⟨#HR, HO, Hg, Hc, Hat, Hout⟩ Hk
  iapply (wp_load 𝒱₀ (c : Thread nD τ) none Set.univ (m := gM) (Finset.subset_univ _)) $$ Hg; iintro Hg
  rw [read_g]
  iapply (wait_own m ρ K c (.inl ()) cc0_scratch4.sem rfl wM vM (by rw [amountOf]; unfold NW; rfl) _ Q) $$ [HO Hc Hat]
  · isplitr; · iexact HR
    isplitl [HO]; · iexact HO
    isplitl [Hc]; · iexact Hc
    iexact Hat
  iintro ⟨HO, Hp, Hz⟩
  unfold payOf
  icases Hp with ⟨Hv, Hw⟩
  unfold vPts
  rw [View.set_whole]
  iapply (wp_load 𝒱₀ (c : Thread nD τ) none Set.univ (m := vM) (Finset.subset_univ _)) $$ Hv; iintro Hv
  rw [read_v]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o, wp_ret]; imodintro
  iapply Hk
  isplitl [HO]; · iexact HO
  isplitl [Hg]; · iexact Hg
  isplitl [Hw]; · iexact Hw
  isplitl [Hv]; · iexact Hv
  isplitl [Hz]; · iexact Hz
  unfold outAt; iexact Hout

/-! ## The exchange -/

/-- Waiting for all the peers' signals: the planes this device writes on them, and the barrier cell closed. -/
theorem bar_run (c : Dev nD) (k : KProg F) (Q : PUnit → sProp 𝕄) :
    iprop(records m ρ K ∗ levAts L lv ∗ owesAny c (owedSends c outwards) ∗ cred (tallyAt (barC c) () 31) ∗ atPos ER (barC c) 0 ∅ 0)
      ⊢ iprop(((owesAny c (owedSends c outwards) ∗ (bigSep Finset.univ fun r : Fin 31 => iprop(∃ f, planePts (peer c r) c f)) ∗ semVal (barC c) 0) -∗ runs c k Q)
          -∗ runs c (.op (.semWait barS (31#32 : BitVec 32).toInt) fun _ => k) Q) := by
  unfold owesAny
  iintro ⟨#HR, #Hlev, ⟨%W, HO⟩, Hc, Hat⟩ Hk
  iapply (Rounds.wp_wait_rest_token 𝒱₀ ER (sched m ρ) (c : Thread nD τ) none (κ := K (c, rBar))
      (wpE_semWait_eq 𝒱₀ (c : Thread nD τ) none Set.univ) (Set.mem_univ _) () (O := owedSends c outwards) (W := W) (R := 0) (m := 0) (T := ∅)
      ((Nat.zero_add _).trans (expect_bar m ρ c).symm)) $$ [Hc HO Hat]
  · isplitr; · iapply (inv_at m ρ K (c, rBar)); iexact HR
    isplitl [Hc]; · iexact Hc
    isplitl [HO]; · iexact HO
    isplitr; · iapply (mayWait_bar c outwards); iexact Hlev
    iexact Hat
  iintro ⟨HO, Hat, -, Hpay⟩
  ihave Hp := (Entails.of_eq (rest_bar m ρ c)) $$ Hpay
  imod (Rounds.cell_close ER (sched m ρ) (Set.mem_univ (K (c, rBar))) (fun h => h) (R := 0 + 1) (duties_later m ρ (barC c))) $$ [Hat] with Hz
  · isplitr; · iapply (inv_at m ρ K (c, rBar)); iexact HR
    iexact Hat
  iapply Hk
  isplitl [HO]; · iexists _; iexact HO
  isplitl [Hp] <;> iassumption

/-- What the exchange needs beside the records and the debts, -/
def exchangeNeeds (c : Dev nD) : sProp 𝕄 :=
  iprop((bigSep Finset.univ fun r : Fin 31 => dutyTok ER (barC (peer c r)) 0 r.rev)
    ∗ (bigSep Finset.univ fun r : Fin 31 => iprop(∃ f, planePts c (peer c r) f))
    ∗ cred (tallyAt (barC c) () 31) ∗ atPos ER (barC c) 0 ∅ 0
    ∗ (bigSep Finset.univ fun r : Fin 31 => dutyTok ER (sendC c r) 0 0)
    ∗ (bigSep Finset.univ fun r : Fin 31 => dutyTok ER (recvC (peer c r) r) 0 0)
    ∗ (bigSep Finset.univ fun r : Fin 31 => rowPts m ρ c (peer c r))
    ∗ (bigSep Finset.univ fun r : Fin 31 => cred (tallyAt (recvC c r) () NB))
    ∗ (bigSep Finset.univ fun r : Fin 31 => atPos ER (recvC c r) 0 ∅ 0)
    ∗ (bigSep Finset.univ fun r : Fin 31 => atPos ER (sendC c r) 0 ∅ 0))

/-- and what it gives. -/
def exchangeGives (c : Dev nD) : sProp 𝕄 :=
  iprop((bigSep Finset.univ fun r : Fin 31 => planePts c (peer c r) (gath m ρ c))
    ∗ (bigSep Finset.univ fun r : Fin 31 => rowPts m ρ c (peer c r))
    ∗ semVal (barC c) 0 ∗ (bigSep Finset.univ fun r : Fin 31 => semVal (sendC c r) 0) ∗ (bigSep Finset.univ fun r : Fin 31 => semVal (recvC c r) 0))

/-- The exchange: all sends are started, all blocks received, all sends completed. -/
theorem exchange_run (c : Dev nD) (k : KProg F) (Q : PUnit → sProp 𝕄) :
    iprop(records m ρ K ∗ levAts L lv ∗ owesAny c (owed₀ c) ∗ exchangeNeeds m ρ c)
      ⊢ iprop(((owesAny c 0 ∗ exchangeGives m ρ c) -∗ runs c k Q)
          -∗ runs c (rising.foldr (signalStep c) <| .op (.semWait barS (31#32 : BitVec 32).toInt) fun _ =>
              outwards.foldr (sendStep xM gM cc0_scratch2 cc0_scratch3 c) <| rising.foldr (recvStep xM gM cc0_scratch3 c) <|
              rising.foldr (sentStep xM gM cc0_scratch2 c) k) Q) := by
  unfold exchangeNeeds
  iintro ⟨#HR, #Hlev, HO, HtB, Hpl, HcB, HaB, HtS, HtV, Hrow, HcV, HaV, HaS⟩ Hk
  -- the signals
  iapply (signal_run m ρ K c _ Q rising) $$ [HO HtB Hpl]
  · isplitr; · iexact HR
    isplitl [HO]; · iexact HO
    rw [← over_rising, bigSep_sep']
    isplitl [HtB] <;> iassumption
  iintro HO
  -- the barrier
  iapply (bar_run m ρ K c _ Q) $$ [HO HcB HaB]
  · isplitr; · iexact HR
    isplitr; · iexact Hlev
    isplitl [HO]; · iexact HO
    isplitl [HcB] <;> iassumption
  iintro ⟨HO, Hto, HzB⟩
  -- the transfers
  iapply (send_run m ρ K c _ Q outwards) $$ [HO HtS HtV Hrow Hto]
  · isplitr; · iexact HR
    isplitl [HO]; · iexact HO
    rw [← over_outwards]
    unfold sendNeeds
    rw [bigSep_sep', bigSep_sep', bigSep_sep']
    isplitl [HtS]; · iexact HtS
    isplitl [HtV]; · iexact HtV
    isplitl [Hrow] <;> iassumption
  rw [← over_outwards]
  iintro ⟨HcS, HO⟩
  -- the arrivals
  iapply (recv_run m ρ K c _ Q rising) $$ [HO HcV HaV]
  · isplitr; · iexact HR
    isplitl [HO]; · iexact HO
    rw [← over_rising]
    unfold recvNeeds
    rw [bigSep_sep']
    isplitl [HcV] <;> iassumption
  rw [← over_rising]
  unfold recvGives
  rw [bigSep_sep', over_rev fun r => planePts c (peer c r) (gath m ρ c)]
  iintro ⟨HO, Hg, HzV⟩
  -- the departures
  iapply (sent_run m ρ K c _ Q rising) $$ [HO HcS HaS]
  · isplitr; · iexact HR
    isplitl [HO]; · iexact HO
    rw [← over_rising]
    unfold sentNeeds
    rw [bigSep_sep']
    isplitl [HcS] <;> iassumption
  rw [← over_rising]
  unfold sentGives
  rw [bigSep_sep']
  iintro ⟨HO, Hrow, HzS⟩
  iapply Hk
  isplitl [HO]; · iexact HO
  unfold exchangeGives
  isplitl [Hg]; · iexact Hg
  isplitl [Hrow]; · iexact Hrow
  isplitl [HzB]; · iexact HzB
  isplitl [HzS] <;> iassumption

/-! ## The body -/

/-- The tokens of the duties device `c` pays. -/
def payToks (c : Dev nD) : sProp 𝕄 :=
  iprop((bigSep Finset.univ fun r : Fin 31 => dutyTok ER (barC (peer c r)) 0 r.rev)
    ∗ dutyTok ER (copyC c) 0 0
    ∗ (bigSep Finset.univ fun r : Fin 31 => dutyTok ER (sendC c r) 0 0)
    ∗ (bigSep Finset.univ fun r : Fin 31 => dutyTok ER (recvC (peer c r) r) 0 0))

/-- Its credits: its barrier's units, its arrivals. -/
def credits (c : Dev nD) : sProp 𝕄 :=
  iprop(cred (tallyAt (barC c) () 31) ∗ (bigSep Finset.univ fun r : Fin 31 => cred (tallyAt (recvC c r) () NB)))

/-- The ghost state it starts from. -/
def ghost (c : Dev nD) : sProp 𝕄 :=
  iprop(records m ρ K ∗ (bigSep Finset.univ fun k : Role => atPos ER (kcell (c, k)) 0 ∅ 0) ∗ payToks c)

/-- What a device starts with: its ghost state, its launch credits and the levels. -/
def start (c : Dev nD) : sProp 𝕄 := iprop((∃ K, ghost m ρ K c) ∗ credits c ∗ levAts L lv)

/-- Before the body, -/
def Φ₀ (c : Dev nD) : sProp 𝕄 := iprop(start m ρ c ∗ wPts m ρ c ∗ (∃ f, vPts c f) ∗ (∃ f, gPts c f))
/-- and after it. -/
def Φ₁ (c : Dev nD) : sProp 𝕄 :=
  iprop((bigSep Finset.univ fun k : Role => semVal (kcell (c, k)) 0) ∗ wPts m ρ c ∗ vPts c (wbuf m ρ c) ∗ gPts c (gath m ρ c))

omit [FloatOps F] in
/-- Copying the whole of `w` leaves it in the buffer. -/
theorem copy_pay (c : Dev nD) (f : Buf (Elt F) ((vM : Memref sig .tc .vmem S1024x1024 .f32).view.loc (c : Thread nD τ))) :
    iprop((vM.view.loc (c : Thread nD τ) ↦[vM.view.set]{fullShare} (vM.view.write (Elt F) f (wM.view.read (Elt F) (wbuf m ρ c)) Finset.univ))
        ∗ (wM.view.loc (c : Thread nD τ) ↦[wM.view.set]{fullShare} wbuf m ρ c)) ⊢ (sched (F := F) m ρ).payload (copyC c) 0 0 := by
  rw [payload_cell]
  unfold payOf vPts wPts
  rw [View.read_whole, View.write_whole_univ]

omit [FloatOps F] in
/-- A plane held at some contents may be handed on at unnamed contents. -/
theorem planes_any (c : Dev nD) (r : Fin 31) (f : (cc0_scratch1 : Ref sig .tc).ty.Contents (Elt F)) :
    (planePts c (peer c r) f : sProp 𝕄) ⊢ iprop(∃ f, planePts c (peer c r) f) := by
  iintro H; iexists f; iexact H

/-- After the store of its own plane, device `c` holds that plane, and the others with whatever they hold. -/
theorem own_store (c : Dev nD) (f : (cc0_scratch1 : Ref sig .tc).ty.Contents (Elt F)) (v : FVec F S1x32x32 .f32) :
    ((gM.access (ownRect c) : View sig .tc _ _ _).loc (c : Thread nD τ) ↦{fullShare} ((gM.access (ownRect c) : View sig .tc _ _ _).write (Elt F) f v Finset.univ) : sProp 𝕄)
      ⊢ iprop(planePts c c ((gM.access (ownRect c) : View sig .tc _ _ _).write (Elt F) f v Finset.univ)
          ∗ bigSep Finset.univ fun r : Fin 31 => iprop(∃ f, planePts c (peer c r) f)) :=
  (Entails.of_eq (gPts_split c _)).trans (sep_mono_right (bigSep_mono fun r _ => planes_any c r _))

omit [FloatOps F] in
/-- The staged `x`, taken apart into row blocks, -/
theorem rows_out (c : Dev nD) : ((xM : Memref sig .tc .vmem S1024x32 .f32).view.loc (c : Thread nD τ) ↦{fullShare} xstg m ρ c : sProp 𝕄)
    ⊢ iprop(rowPts m ρ c c ∗ bigSep Finset.univ fun r : Fin 31 => rowPts m ρ c (peer c r)) := Entails.of_eq (xPts_split m ρ c)

omit [FloatOps F] in
/-- and put together again. -/
theorem rows_in (c : Dev nD) : iprop(rowPts m ρ c c ∗ bigSep Finset.univ fun r : Fin 31 => rowPts m ρ c (peer c r))
    ⊢ (((c : Thread nD τ).loc cc0_stg0_0) ↦{fullShare} xstg m ρ c : sProp 𝕄) := Entails.of_eq (xPts_split m ρ c).symm

/-- The plane a device fills itself and those that arrived are the gathering buffer, filled. -/
theorem own_join (c : Dev nD) (f : (cc0_scratch1 : Ref sig .tc).ty.Contents (Elt F)) (v : Vec F S32x32 .f32) (hv : v = ownRows m ρ c) :
    iprop(planePts c c ((gM.access (ownRect c) : View sig .tc _ _ _).write (Elt F) f (k0_pay2 v) Finset.univ)
        ∗ bigSep Finset.univ fun r : Fin 31 => planePts c (peer c r) (gath m ρ c)) ⊢ (gPts c (gath m ρ c) : sProp 𝕄) := by
  subst hv
  rw [gPts_split]
  refine sep_mono_left ?_
  unfold planePts
  exact Entails.of_eq (pointsTo_congr fun i hi => own_plane m ρ c f i hi)

/-- The whole body of one device, from what it starts with to the gathered planes and the product. -/
theorem body_run (c : Dev nD) (f : (cc0_stg1_0 : Ref sig .tc).ty.Contents (Elt F)) (Q : PUnit → sProp 𝕄) :
    iprop(ghost m ρ K c ∗ credits c ∗ levAts L lv ∗ owesAny c (owed₀ c) ∗ wPts m ρ c ∗ (∃ f, vPts c f) ∗ (∃ f, gPts c f) ∗ xPts m ρ c ∗ oPts c f)
      ⊢ iprop(((owesAny c 0 ∗ Φ₁ m ρ c ∗ xPts m ρ c ∗ oPts c (outAt m ρ c)) -∗ Q ⟨⟩)
          -∗ runs c (text xM wM (Memref.isWhole_whole _) oM vM (Memref.isWhole_whole _) gM cc0_scratch2 cc0_scratch3 cc0_scratch4) Q) := by
  unfold text ghost payToks credits
  simp only [wp_deviceId]
  rw [role_split]
  iintro ⟨⟨#HR, ⟨HaB, HaC, HaS, HaV⟩, HtB, HtC, HtS, HtV⟩, ⟨HcB, HcV⟩, #Hlev, HO, Hw, ⟨%fv, Hv⟩, ⟨%fg, Hg⟩, Hx, Hout⟩ Hk
  unfold wPts vPts gPts xPts
  -- the copy of `w` starts
  iapply (Rounds.wp_copy_pointsTo 𝒱₀ ER (sched m ρ) (c : Thread nD τ) none (κ := K (c, rCopy)) (r := 0) (d := 0)
      (duty_own m ρ c (.inl ())) () NW (by unfold NW; rfl) (amount_cell m ρ c rCopy 0) (copy_pay m ρ c fv)) $$ [Hw Hv HtC]
  · isplitr; · iapply (inv_at m ρ K (c, rCopy)); iexact HR
    isplitl [Hw]; · iexact Hw
    isplitl [Hv]; · iexact Hv
    isplitl [HtC]; · iexact HtC
    iapply (reached_at m ρ K (c, rCopy)); iexact HR
  iintro HcC
  -- the own plane
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_store 𝒱₀ (c : Thread nD τ) none Set.univ (m := gM) (r := ownRect c) (Mk := Finset.univ) (Finset.subset_univ _)) $$ Hg; iintro Hg
  ihave Hg := (own_store c fg _) $$ Hg
  icases Hg with ⟨Hgo, Hgp⟩
  ihave Hx := (rows_out m ρ c) $$ Hx
  icases Hx with ⟨Hxo, Hxp⟩
  unfold afterOwn
  iapply (exchange_run m ρ K c _ Q) $$ [HO HtB Hgp HcB HaB HtS HtV Hxp HcV HaV HaS]
  · isplitr; · iexact HR
    isplitr; · iexact Hlev
    isplitl [HO]; · iexact HO
    unfold exchangeNeeds
    isplitl [HtB]; · iexact HtB
    isplitl [Hgp]; · iexact Hgp
    isplitl [HcB]; · iexact HcB
    isplitl [HaB]; · iexact HaB
    isplitl [HtS]; · iexact HtS
    isplitl [HtV]; · iexact HtV
    isplitl [Hxp]; · iexact Hxp
    isplitl [HcV]; · iexact HcV
    isplitl [HaV] <;> iassumption
  unfold exchangeGives
  iintro ⟨HO, Hgp, Hxp, HzB, HzS, HzV⟩
  ihave Hg := (own_join m ρ c fg _ rfl) $$ [Hgo Hgp]
  · isplitl [Hgo]; · iexact Hgo
    iexact Hgp
  iapply (tail_run m ρ K c f Q) $$ [HO Hg HcC HaC Hout]
  · isplitr; · iexact HR
    isplitl [HO]; · iexact HO
    isplitl [Hg]; · iexact Hg
    isplitl [HcC]; · iexact HcC
    isplitl [HaC]; · iexact HaC
    iexact Hout
  iintro ⟨HO, Hg, Hw, Hv, HzC, Hout⟩
  iapply Hk
  isplitl [HO]; · iexact HO
  unfold Φ₁
  rw [role_split]
  isplitl [HzB HzC HzS HzV Hg Hw Hv]
  · isplitl [HzB HzC HzS HzV]
    · isplitl [HzB]; · iexact HzB
      isplitl [HzC]; · iexact HzC
      isplitl [HzS] <;> iassumption
    isplitl [Hw]; · iexact Hw
    isplitl [Hv]; · iexact Hv
    iexact Hg
  isplitl [Hxo Hxp]
  · iapply (rows_in m ρ c)
    isplitl [Hxo] <;> iassumption
  iexact Hout

end Cert.A2A

end
-- ==== Proof.Launch.lean ====
/-
# The launch

The proof data of the one region, its body obligation, and the run of the whole program from any memory: the semaphores
become the cells of the exchange, the duty tokens are dealt to the devices that pay them, and every device starts.
-/
module

public import proofs.«01_k».proof.Proof.Body
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The region's proof data: arrays at launch, what each window's buffer holds after, the invariants and the debts. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => owed₀ c
    | ⟨_ + 1, _⟩ => 0

/-- A staging buffer's points-to, as the pipeline states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- and what it takes back. -/
def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

/-- The body, from the pipeline's precondition to its postcondition. -/
theorem sound_body (c : Dev nD) :
    bodyPre m ρ c ⊢ runs c (text xM wM (Memref.isWhole_whole _) oM vM (Memref.isWhole_whole _) gM cc0_scratch2 cc0_scratch3 cc0_scratch4) (fun _ => bodyPost m ρ c) := by
  unfold bodyPre Φ₀ start
  iintro ⟨⟨⟨⟨%K, Hg⟩, Hcr, Hlev⟩, Hw, Hv, Hgat⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  iapply (body_run m ρ K c g1 fun _ => bodyPost m ρ c) $$ [Hg Hcr Hlev HO Hw Hv Hgat Hx Hout]
  · isplitl [Hg]; · iexact Hg
    isplitl [Hcr]; · iexact Hcr
    isplitl [Hlev]; · iexact Hlev
    isplitl [HO]; · unfold owesAny; iexists W; iexact HO
    isplitl [Hw]; · iexact Hw
    isplitl [Hv]; · iexact Hv
    isplitl [Hgat]; · iexact Hgat
    isplitl [Hx]; · unfold xPts; iexact Hx
    unfold oPts; iexact Hout
  unfold owesAny xPts oPts
  iintro ⟨⟨%W', HO⟩, HΦ, Hx, Hout⟩
  unfold bodyPost Dat.owesAt Pipeline.owesWithin
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The library's body obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ wp frame (wpE (defs₀ (F := F)) 𝒱₀ c none) Set.univ
    (cc0_body xM (Memref.isWhole_whole _) wM (Memref.isWhole_whole _) oM (Memref.isWhole_whole _) vM (Memref.isWhole_whole _) gM (Memref.isWhole_whole _)
      cc0_scratch2 cc0_scratch3 cc0_scratch4) (fun _ => bodyPost m ρ c)
  rw [body_eq]
  exact sound_body m ρ c

/-! ## The cells and the tokens at launch -/

set_option maxRecDepth 16384 in
/-- The region's own semaphores are scoped, distinct, and none of the pipeline's. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- Every cell of every device. -/
def allCells : Finset (GSem nD τ sig) := Finset.univ.map ⟨kcell, kcell_injective⟩

/-- A device's own cells' duty tokens: its barrier's, one a peer; one of each cell of its own. -/
abbrev tokOf (cj : Dev nD × (Fin 31 ⊕ Own)) : GSem nD τ sig × ℕ × Fin 31 := match cj.2 with
  | .inl d => (barC cj.1, 0, d)
  | .inr o => (kcell (cj.1, .inr o), 0, 0)

/-- Different tokens are of different duties. -/
theorem tokOf_injective : Function.Injective tokOf := by
  rintro ⟨c, j⟩ ⟨c', j'⟩ h
  have hg : (tokOf (c, j)).1 = (tokOf (c', j')).1 := congrArg Prod.fst h
  have hd : (tokOf (c, j)).2.2 = (tokOf (c', j')).2.2 := congrArg (fun x => x.2.2) h
  rcases j with d | o <;> rcases j' with d' | o'
  · have hc := congrArg Prod.fst (kcell_injective hg)
    have hd' : d = d' := hd
    have hc' : c = c' := hc
    rw [hc', hd']
  · exact absurd (congrArg Prod.snd (kcell_injective hg)) (fun h => by cases h)
  · exact absurd (congrArg Prod.snd (kcell_injective hg)) (fun h => by cases h)
  · have he := kcell_injective hg
    have hc : c = c' := congrArg Prod.fst he
    have ho : o = o' := Sum.inr.inj (congrArg Prod.snd he)
    rw [hc, ho]

/-- The duty tokens of every cell of every device. -/
def allToks : Finset (GSem nD τ sig × ℕ × Fin 31) := Finset.univ.map ⟨tokOf, tokOf_injective⟩

/-- The ghost state at launch. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 31 => dutyTok ER (barC c) 0 d)
    ∗ dutyTok ER (copyC c) 0 0
    ∗ (bigSep Finset.univ fun r : Fin 31 => dutyTok ER (sendC c r) 0 0)
    ∗ (bigSep Finset.univ fun r : Fin 31 => dutyTok ER (recvC c r) 0 0))

/-- What the launch deals device `c`, -/
def G (c : Dev nD) : sProp 𝕄 :=
  iprop((bigSep Finset.univ fun k : Role => roundState ER (sched m ρ) (kcell (c, k)) 0)
    ∗ (bigSep Finset.univ fun k : Role => atPos ER (kcell (c, k)) 0 ∅ 0)
    ∗ (bigSep Finset.univ fun k : Role => reached ER (kcell (c, k)) 0) ∗ toks c)

/-- and what it makes of it. -/
def G' (c : Dev nD) : sProp 𝕄 := iprop(∃ K, ghost m ρ K c)

omit [FloatOps F] in
/-- A family over all cells, device by device. -/
theorem over_cells (Φ : GSem nD τ sig → sProp 𝕄) :
    bigSep allCells Φ = bigSep Finset.univ fun c : Dev nD => bigSep Finset.univ fun k : Role => Φ (kcell (c, k)) := by
  unfold allCells; rw [bigSep_map, bigSep_univ_prod]; rfl

omit [FloatOps F] in
/-- The tokens of all cells, device by device. -/
theorem over_toks : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [BI.bigSep_univ_sum]
  refine congrArg _ ?_
  exact own_split fun o : Own => (dutyTok ER (kcell (c, .inr o)) 0 0 : sProp 𝕄)

omit [FloatOps F] in
/-- The ghost state at launch gives every device its share. -/
theorem fund_cells : BI.own (ER (initOf allCells allToks)) ⊢ (|==> bigSep Finset.univ (G m ρ) : sProp 𝕄) := by
  iintro HX
  imod (Rounds.fund ER (sched m ρ) allCells allToks) $$ HX with ⟨Hst, Hr, Hat, Htok⟩
  imodintro
  ihave Hst' := (Entails.of_eq (over_cells fun g => roundState ER (sched m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G; simp only [bigSep_sep']
  isplitl [Hst']; · iexact Hst'
  isplitl [Hat']; · iexact Hat'
  isplitl [Hr']; · iexact Hr'
  iexact Htok'

omit [FloatOps F] in
/-- The one semaphore that is not scoped is the barrier's. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- The semaphores at zero are the cells' counters at zero. -/
theorem sems0_eq (c : Dev nD) : (bigSep Finset.univ fun k : Role => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, BI.bigSep_univ_sum, unit_one]
  rfl

omit [FloatOps F] in
/-- A device's counters at zero and its cells' state go under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Role => iprop(∃ κ : ℕ, cellInv ER (sched m ρ) κ (kcell (c, k))))
          ∗ (bigSep Finset.univ fun k : Role => atPos ER (kcell (c, k)) 0 ∅ 0)
          ∗ (bigSep Finset.univ fun k : Role => reached ER (kcell (c, k)) 0) ∗ toks c) := by
  unfold G
  iintro ⟨Hos, Hus, Hst, Hrest⟩
  ihave Hv := (Entails.of_eq (sems0_eq (F := F) c).symm) $$ [Hos Hus]
  · isplitl [Hus] <;> iassumption
  imod (show iprop((bigSep Finset.univ fun k : Role => semVal (kcell (c, k)) 0) ∗ bigSep Finset.univ fun k : Role => roundState ER (sched m ρ) (kcell (c, k)) 0)
      ⊢ (|={Set.univ}=> bigSep Finset.univ fun k : Role => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  iexact Hrest

omit [FloatOps F] in
/-- A family over devices and distances, each member handed to the peer at its distance. -/
theorem deal (Ψ : Dev nD → Fin 31 → sProp 𝕄) : (bigSep Finset.univ fun c : Dev nD => bigSep Finset.univ fun r : Fin 31 => Ψ c r)
    = bigSep Finset.univ fun c : Dev nD => bigSep Finset.univ fun r : Fin 31 => Ψ (peer c r) r := by
  rw [BI.bigSep_univ_comm, BI.bigSep_univ_comm fun (c : Dev nD) (r : Fin 31) => Ψ (peer c r) r]
  exact bigSep_congr fun r _ => bigSep_univ_equiv (around r) fun c => Ψ c r

omit [FloatOps F] in
/-- The tokens, from the devices whose cells they are to those who pay them. -/
theorem toks_around : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    deal fun c r => (dutyTok ER (recvC c r) 0 0 : sProp 𝕄)]
  refine congrArg (fun P : sProp 𝕄 => iprop(P ∗ _)) ?_
  refine Eq.trans (bigSep_congr fun c _ => (over_rev fun d : Fin 31 => (dutyTok ER (barC c) 0 d : sProp 𝕄)).symm) ?_
  exact deal fun c r => (dutyTok ER (barC c) 0 r.rev : sProp 𝕄)

omit [FloatOps F] in
/-- A persistent fact serves every device. -/
theorem to_all {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
/-- From the shared records, its positions and its tokens to pay a device has its ghost state. -/
theorem ghost_intro (K : Dev nD × Role → ℕ) (c : Dev nD) :
    iprop(records m ρ K ∗ ((bigSep Finset.univ fun k : Role => atPos ER (kcell (c, k)) 0 ∅ 0) ∗ payToks c)) ⊢ G' m ρ c := by
  unfold G' ghost
  iintro H
  iexists K
  iexact H

omit [FloatOps F] in
/-- The devices' shares, the names of the invariants chosen once for all and the tokens dealt to their payers. -/
theorem regroup :
    (bigSep Finset.univ fun c : Dev nD => iprop((bigSep Finset.univ fun k : Role => iprop(∃ κ : ℕ, cellInv ER (sched m ρ) κ (kcell (c, k))))
          ∗ (bigSep Finset.univ fun k : Role => atPos ER (kcell (c, k)) 0 ∅ 0)
          ∗ (bigSep Finset.univ fun k : Role => reached ER (kcell (c, k)) 0) ∗ toks c) : sProp 𝕄)
      ⊢ bigSep Finset.univ (G' m ρ) := by
  rw [bigSep_sep', bigSep_sep', bigSep_sep', ← bigSep_univ_prod (fun ck : Dev nD × Role => iprop(∃ κ : ℕ, cellInv ER (sched m ρ) κ (kcell ck))),
    ← bigSep_univ_prod (fun ck : Dev nD × Role => (reached ER (kcell ck) 0 : sProp 𝕄)), toks_around]
  iintro ⟨HI, Hat, #HR, Htok⟩
  ihave HK := (BI.bigSep_exists_pi Finset.univ (fun (ck : Dev nD × Role) (κ : ℕ) => (cellInv ER (sched m ρ) κ (kcell ck) : sProp 𝕄))) $$ HI
  icases HK with ⟨%K, #HI⟩
  iapply (to_all (R := records m ρ K) fun c => ghost_intro m ρ K c)
  isplitr
  · unfold records; isplitl; · iexact HI
    iexact HR
  · rw [bigSep_sep']
    isplitl [Hat]; · iexact Hat
    iexact Htok

omit [FloatOps F] in
/-- The launch, over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What is owed to a cell by a list of sends, as a sum over the list. -/
theorem owedSends_sum (c : Dev nD) (g : GSem nD τ sig) : ∀ l : List (Fin 31),
    owedSends c l g () = (l.map fun r => (tallyAt (recvC (peer c r) r) () NB : CellTallies nD τ sig Unit) g ()).sum
  | [] => rfl
  | r :: l => by
    rw [List.map_cons, List.sum_cons, ← owedSends_sum c g l, Nat.add_comm]; rfl

/-- What is owed to a cell by a list of signals and all sends, as sums over the lists. -/
theorem owedSignals_sum (c : Dev nD) (g : GSem nD τ sig) : ∀ l : List (Fin 31),
    owedSignals c l g () = (l.map fun r => (tallyAt (barC (peer c r)) () 1 : CellTallies nD τ sig Unit) g ()).sum + owedSends c outwards g ()
  | [] => (Nat.zero_add _).symm
  | r :: l => by
    rw [List.map_cons, List.sum_cons, Nat.add_assoc, ← owedSignals_sum c g l, Nat.add_comm]; rfl

/-- A sum over the rising list is a sum over the distances. -/
theorem sum_rising (f : Fin 31 → ℕ) : (rising.map f).sum = ∑ r, f r :=
  (List.sum_toFinset f (show rising.Nodup by decide)).symm.trans (by rw [show rising.toFinset = Finset.univ by decide])
/-- So is a sum over the order of the sends. -/
theorem sum_outwards (f : Fin 31 → ℕ) : (outwards.map f).sum = ∑ r, f r :=
  (List.sum_toFinset f (show outwards.Nodup by decide)).symm.trans (by rw [show outwards.toFinset = Finset.univ by decide])

/-- Two cells are one only at one device and one role. -/
theorem cell_eq_iff (a b : Dev nD) (k k' : Role) : kcell (a, k) = kcell (b, k') ↔ a = b ∧ k = k' :=
  ⟨fun h => ⟨congrArg Prod.fst (kcell_injective h), congrArg Prod.snd (kcell_injective h)⟩, fun h => by rw [h.1, h.2]⟩

/-- What a debt to one cell owes to another. -/
theorem tally_cell (a b : Dev nD) (k k' : Role) (n : ℕ) :
    (tallyAt (kcell (a, k)) () n : CellTallies nD τ sig Unit) (kcell (b, k')) () = if b = a ∧ k' = k then n else 0 := by
  rw [tallyAt_apply]
  refine if_congr ⟨fun h => (cell_eq_iff _ _ _ _).mp h.1, fun h => ⟨(cell_eq_iff _ _ _ _).mpr h, rfl⟩⟩ rfl rfl

/-- Over all devices, at a fixed distance, one is at that distance from `c`. -/
theorem sum_peer (c : Dev nD) (r : Fin 31) (n : ℕ) : (∑ d : Dev nD, if c = peer d r then n else 0) = n := by
  refine ((around r).sum_comp fun d => if c = d then n else 0).trans ?_
  rw [Finset.sum_ite_eq, if_pos (Finset.mem_univ _)]

/-- All devices together owe a barrier thirty-one signals, -/
theorem owed_bar (c : Dev nD) : (∑ d : Dev nD, owed₀ d (barC c) ()) = 31 := by
  have h : ∀ d : Dev nD, owed₀ d (barC c) () = ∑ r : Fin 31, if c = peer d r then 1 else 0 := fun d => by
    rw [owed₀, owedSignals_sum, owedSends_sum, sum_rising, sum_outwards,
      Finset.sum_congr rfl fun r _ => tally_cell (peer d r) c rBar rBar 1,
      Finset.sum_congr rfl fun r _ => (tally_cell (peer d r) c (rRecv r) rBar NB).trans (if_neg fun h => by cases h.2),
      Finset.sum_const_zero, Nat.add_zero]
    exact Finset.sum_congr rfl fun r _ => if_congr (and_iff_left rfl) rfl rfl
  rw [Finset.sum_congr rfl fun d _ => h d, Finset.sum_comm, Finset.sum_congr rfl fun r _ => sum_peer c r 1]
  rfl

/-- and a receive cell one block. -/
theorem owed_recv (c : Dev nD) (r₀ : Fin 31) : (∑ d : Dev nD, owed₀ d (recvC c r₀) ()) = NB := by
  have h : ∀ d : Dev nD, owed₀ d (recvC c r₀) () = if c = peer d r₀ then NB else 0 := fun d => by
    rw [owed₀, owedSignals_sum, owedSends_sum, sum_rising, sum_outwards,
      Finset.sum_congr rfl fun r _ => tally_cell (peer d r) c (rRecv r) (rRecv r₀) NB,
      Finset.sum_congr rfl fun r _ => (tally_cell (peer d r) c rBar (rRecv r₀) 1).trans (if_neg fun h => by cases h.2),
      Finset.sum_const_zero, Nat.zero_add, Finset.sum_eq_single r₀ (fun r _ hr => if_neg fun h => hr (by
        have := h.2; injection this with h1; injection h1 with h2; injection h2 with h3; exact h3.symm)) (fun h => absurd (Finset.mem_univ _) h)]
    exact if_congr (and_iff_left rfl) rfl rfl
  rw [Finset.sum_congr rfl fun d _ => h d, sum_peer]

/-- So the launch credits a barrier with thirty-one, -/
theorem launch_bar (c : Dev nD) :
    tallyOn (barC c) (launchCredit (Pipeline.owing owed₀) 0 (barC c)) = (tallyAt (barC c) () 31 : CellTallies nD τ sig Unit) := by
  unfold tallyAt; refine congrArg _ (Finsupp.ext fun u => ?_); cases u
  rw [Pipeline.launchCredit_owing, Finsupp.single_eq_same, owed_bar]

/-- and a receive cell with one block. -/
theorem launch_recv (c : Dev nD) (r : Fin 31) :
    tallyOn (recvC c r) (launchCredit (Pipeline.owing owed₀) 0 (recvC c r)) = (tallyAt (recvC c r) () NB : CellTallies nD τ sig Unit) := by
  unfold tallyAt; refine congrArg _ (Finsupp.ext fun u => ?_); cases u
  rw [Pipeline.launchCredit_owing, Finsupp.single_eq_same, owed_recv]

omit [FloatOps F] in
/-- Of a family over the roles keep the barrier's member and the receives'. -/
theorem roles_drop (Φ : Role → sProp 𝕄) :
    bigSep Finset.univ Φ ⊢ iprop(Φ rBar ∗ bigSep Finset.univ fun r : Fin 31 => Φ (rRecv r)) := by
  rw [role_split]
  iintro ⟨HB, -, -, HV⟩
  isplitl [HB] <;> iassumption

omit [FloatOps F] in
/-- A device's launch credit covers its waits. -/
theorem creds (c : Dev nD) : (Pipeline.launchCred owed₀ c : sProp 𝕄) ⊢ credits c := by
  unfold Pipeline.launchCred credits
  refine (bigSep_subset (Finset.subset_univ (Finset.univ.map ⟨csem, csem_injective⟩))).trans ?_
  rw [bigSep_map]
  exact (roles_drop _).trans (BI.sep_mono (Entails.of_eq (congrArg cred (launch_bar c)))
    (Entails.of_eq (bigSep_congr fun r _ => congrArg cred (launch_recv c r))))

/-! ## The theorem's side conditions -/

omit [FloatOps F] in
/-- The weights' array held whole, in the kernel's words. -/
theorem wPts_eq (c : Dev nD) : (((c : Thread nD τ).loc main_arg1) ↦{fullShare} wbuf m ρ c : sProp 𝕄) = wPts m ρ c := by
  unfold wPts; rw [View.set_whole]
omit [FloatOps F] in
/-- The weights' buffer held whole, in the kernel's words. -/
theorem vPts_eq (c : Dev nD) (f : Buf (Elt F) ((c : Thread nD τ).loc cc0_scratch0)) :
    (((c : Thread nD τ).loc cc0_scratch0) ↦{fullShare} f : sProp 𝕄) = vPts c f := by
  unfold vPts; rw [View.set_whole]

/-- What a device takes into the region. -/
def intoRegion (c : Dev nD) : sProp 𝕄 := iprop(start m ρ c ∗ wPts m ρ c)
/-- What it takes out. -/
def outOfRegion (c : Dev nD) : sProp 𝕄 := iprop(unscopedSems0 c ∗ wPts m ρ c)

omit [FloatOps F] in
/-- The launch gives a device what it takes into the region. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(intoRegion m ρ c ∗ emp) := by
  rw [unscopedRestP_none, unscopedRest0_eq]
  iintro ⟨Hw, Hlev, Hcr, -, HG⟩
  ihave Hc := (creds (F := F) c) $$ Hcr
  imodintro
  unfold intoRegion start G'
  isplitl
  · isplitl [HG Hc Hlev]
    · isplitl [HG]; · iexact HG
      isplitl [Hc] <;> iassumption
    iapply (Entails.of_eq (wPts_eq m ρ c)); unfold wbuf s₀; iexact Hw
  · iempintro

/-- With the scratch buffers that is the invariant before the body. -/
theorem phi0_intro (c : Dev nD) :
    iprop(intoRegion m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ intoRegion
  iintro ⟨⟨Hs, Hw⟩, -, ⟨%f, Hv⟩, ⟨%g, Hg⟩⟩
  isplitl [Hs]; · iexact Hs
  isplitl [Hw]; · iexact Hw
  isplitl [Hv]
  · iexists f; iapply (Entails.of_eq (vPts_eq c f)); iexact Hv
  iexists g; unfold gPts; iexact Hg

/-- The invariant after the body gives back the semaphores at zero and the scratch buffers. -/
theorem phi1_exit (c : Dev nD) :
    (dats m ρ 0 c).Φ (Fin.last cfg0.N) ⊢ iprop(outOfRegion m ρ c ∗ Pipeline.ownSems0 osem c ∗ Pipeline.scopedRest cfg0.spec c) := by
  rw [show (dats m ρ 0 c).Φ (Fin.last cfg0.N) = Φ₁ m ρ c from rfl, scopedRest0_eq]
  unfold Φ₁ outOfRegion gPts
  rw [sems0_eq]
  iintro ⟨⟨Hu, Ho⟩, Hw, Hv, Hg⟩
  isplitl [Hu Hw]
  · isplitl [Hu] <;> iassumption
  isplitl [Ho]; · iexact Ho
  isplitl [Hv]
  · iexists (wbuf m ρ c); iapply (Entails.of_eq (vPts_eq c (wbuf m ρ c)).symm); iexact Hv
  iexists (gath m ρ c); iexact Hg

/-- The pipeline's own waits are below everything that the device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- What an array holds at the end. -/
def finalA (c : Dev nD) (w : Fin cfg0.W) : Buf (Elt F) ((cfg0.win w).arr.view.loc (c : Thread nD τ)) := (dats m ρ 0 c).arrAt w cfg0.N

/-- Every device's arrays hold what was computed, and its `w` what it held. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- At the end the barrier's counter reads zero and `w` reads as at launch. -/
theorem read_exit (c : Dev nD) (s' : Phys nD τ sig (Elt F)) :
    iprop(outOfRegion m ρ c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  unfold outOfRegion
  iintro ⟨⟨Hu, Hw⟩, -, HSI⟩
  ihave Hw' := (Entails.of_eq (wPts_eq m ρ c).symm) $$ Hw
  icases (pointsTo_read_all (Finset.univ : Finset Unit) (fun _ => (c : Thread nD τ).loc main_arg1) (fun _ => wbuf m ρ c) s' fullShare) $$ [Hw' HSI] with ⟨%hw, HSI⟩
  · rw [unit_one]
    isplitl [Hw'] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, hw () (Finset.mem_univ _)⟩
  iexact HSI

set_option maxRecDepth 16384 in
/-- On any float values, from any memory with zero counters, every weakly fair execution of the program terminates, with the
    computed contents in each device's arrays, `w` unchanged, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := intoRegion m ρ) (Y := outOfRegion m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_exit m ρ)
    (hQ := fun _ h hs => ⟨fun c => ⟨fun w => (h c).1 w, (h c).2.2.2⟩, sem_eq_zero hs fun c => (h c).2.2.1⟩)

/-- `x` after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.A2A

end
-- ==== Proof.Reference.lean ====
/-
# The run of the reference

One device, four host operations: the product of the two arguments, and its maximum with zero.
-/
module

public import proofs.«01_k».proof.Proof.Gen.ReferenceIdeal
public import Idealize.ShloMosaic.Lib.StableHlo.Run

@[expose] public section

noncomputable section

namespace Cert.A2A.Reference

open Cert.ReferenceIdeal Cert.ReferenceIdeal.Gen
open Idealize.ShloMosaic Idealize.ShloMosaic.TcCoe Idealize.ShloMosaic.StableHlo Idealize.SL.Sem

variable {F : FTy → Type} [FloatOps F]

/-- What the reference computes of its two arguments. -/
def product (x w : FVec F S1024x1024 .f32) : FVec F S1024x1024 .f32 :=
  maximumf (Host.dotGeneral dot_S1024x1024_S1024x1024_S1024x1024_1_0_0_1_n_n none x w)
    (broadcastInDim S1024x1024 ![] bcast_S_S1024x1024 (constant S_ .f32 0x00000000#32))

/-- The operations of the reference, in order. -/
abbrev steps : List (HloOp τ sig (Elt F)) :=
  [ binary main_arg0 main_arg1 main_v0 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    nullary main_cst (constant S_ .f32 0x00000000#32),
    unary main_cst main_v1 (broadcastInDim S1024x1024 ![] bcast_S_S1024x1024 : (⟨S_, .f32⟩ : BufTy).Contents (Elt F) → (⟨S1024x1024, .f32⟩ : BufTy).Contents (Elt F)),
    binary main_v0 main_v1 main_v2 (maximumf : (⟨S1024x1024, .f32⟩ : BufTy).Contents (Elt F) → (⟨S1024x1024, .f32⟩ : BufTy).Contents (Elt F) → (⟨S1024x1024, .f32⟩ : BufTy).Contents (Elt F)) ]

/-- The reference is that straight line. -/
theorem main_steps (c : Dev nD) : main (F := F) c = seq steps := rfl

/-- After the steps the result's buffer holds the product of the arguments' contents, -/
theorem after_result (V : Valuation τ sig (Elt F)) :
    after steps V (main_v2 : DevRef τ sig) = product (V (main_arg0 : DevRef τ sig)) (V (main_arg1 : DevRef τ sig)) := by
  after_results
  rfl

/-- and neither argument is written. -/
theorem after_arg0 (V : Valuation τ sig (Elt F)) : after steps V (main_arg0 : DevRef τ sig) = V (main_arg0 : DevRef τ sig) := by
  after_results

/-- The second argument is not written. -/
theorem after_arg1 (V : Valuation τ sig (Elt F)) : after steps V (main_arg1 : DevRef τ sig) = V (main_arg1 : DevRef τ sig) := by
  after_results

/-- The signature declares no scoped buffer, -/
theorem no_scoped_refs : (Finset.univ.filter fun b : Ref sig .tc => b.isScoped) = ∅ := by decide
/-- and no scoped semaphore, -/
theorem no_scoped_sems : (Finset.univ.filter fun sm : SemLoc sig => sm.isScoped .tc) = ∅ := by decide

/-- The steps touch the TensorCore's buffers only. -/
theorem steps_bufs : (steps : List (HloOp τ sig (Elt F))).Forall fun op => op.bufs ⊆ tcRefs τ sig :=
  ⟨binary_bufs_sub .., nullary_bufs_sub .., unary_bufs_sub .., binary_bufs_sub ..⟩

/-- On any float values, from any memory with zero counters, the reference terminates with the product in its result and
    both arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v2)
          = product (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono
    (fun _ h c => ⟨(h c main_v2).trans (after_result _), (h c main_arg0).trans (after_arg0 _), (h c main_arg1).trans (after_arg1 _)⟩)
    (run_seq no_scoped_refs no_scoped_sems defs main (fun _ => steps) main_steps (fun _ => steps_bufs) m ρ)

end Cert.A2A.Reference

end
-- ==== Proof.Value.lean ====
/-
# The value of the exchange

At the exact values: a device's result is its row block of the reference's product. What a device gathered, its planes laid
side by side, is its row block of the whole `x`; the product with `w` and the maximum with zero act row by row.
-/
module

public import proofs.«01_k».proof.Proof.Launch
public import proofs.«01_k».proof.Proof.Reference
public import Idealize.ShloMosaic.Lib.MatmulPlain
public import Idealize.ShloMosaic.Lib.StackMember
public import Idealize.ShloMosaic.Lib.KernelVsHost
public import Idealize.ShloMosaic.Lib.Layout
public import Idealize.ShloMosaic.Lib.Pipeline.Value

@[expose] public section

noncomputable section

namespace Cert.A2A

open Cert.KernelIdeal Cert.KernelIdeal.Gen
open Idealize.ShloMosaic
open Idealize.ShloMosaic.TcCoe
open Idealize.ShloMosaic.Pipeline
open Idealize.ShloMosaic.ValueIdx

section Any

variable {F : FTy → Type} [FloatOps F]
variable (m : (ℓ : Loc nD τ sig) → Buf (Elt F) ℓ) (ρ : Dev nD → PrngReg)

/-- The staged `x` is the whole of the device's block. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends holding what the kernel computed. -/
theorem finalA_out (c : Dev nD) : finalA m ρ c (1 : Fin 2) = outAt m ρ c := by
  have hz : (fun a => (win0_1.index (0 : Fin 1)) a * main_v1.ty.shape.size a) = fun _ => 0 :=
    funext fun a => by fin_cases a <;> decide
  refine (Memref.read_access_unit_zero (Elt F) main_v1 hz (fun a => by fin_cases a <;> decide) _).symm.trans ?_
  unfold finalA
  rw [show cfg0.N = ((0 : Fin 1) : Fin cfg0.N).val + 1 from rfl, (dats m ρ 0 c).arrAt_succ (1 : Fin 2) (0 : Fin 1),
    if_pos (flush0_1 (0 : Fin 1))]
  exact View.read_write_univ _ _

end Any

/-! ## Layout, at any values -/

section Layout

variable {α : Type}

/-- Column `k` of a row is place `k % 32` of plane `k / 32`. -/
abbrev planeOf (k : Fin 1024) : Fin 32 := ⟨k.val / 32, by have := k.isLt; omega⟩
/-- The place within its plane. -/
abbrev placeOf (k : Fin 1024) : Fin 32 := ⟨k.val % 32, Nat.mod_lt _ (by decide)⟩

/-- The gathered planes laid side by side, read at row `p`, column `k`. -/
theorem side_by_side (g : S32x32x32.Idx → α) (p : Fin 32) (k : Fin 1024) :
    shapeCast S32x1024 (transpose S32x32x32 [1, 0, 2] g transposes_S32x32x32_p1_0_2_S32x32x32) shapeCasts_S32x32x32_S32x1024
        (ix2 (n0 := 32) (n1 := 1024) p k)
      = g (ix3 (n0 := 32) (n1 := 32) (n2 := 32) (planeOf k) p (placeOf k)) := by
  refine (shapeCast_apply _ _ _ (ix3 (n0 := 32) (n1 := 32) (n2 := 32) p (planeOf k) (placeOf k)) ?_).trans ?_
  · refine (Shape.rowMajor_val_three _).trans (Eq.trans ?_ (Shape.rowMajor_val_two _).symm)
    show (p.val * 32 + k.val / 32) * 32 + k.val % 32 = p.val * 1024 + k.val
    have := Nat.div_add_mod k.val 32
    omega
  · refine transpose_apply _ _ _ _ _ fun b => ?_
    match b with
    | ⟨0, _⟩ => rfl
    | ⟨1, _⟩ => rfl
    | ⟨2, _⟩ => rfl

end Layout

/-! ## The two sides, at an index -/

/-- The kernel's value at row `p`, column `n`. -/
theorem kernel_apply (g : Vec Ideal S32x32x32 .f32) (w : Vec Ideal S1024x1024 .f32) (p : Fin 32) (n : Fin 1024) :
    k0_pay1 g w (ix2 (n0 := 32) (n1 := 1024) p n)
      = max (∑ k : Fin 1024, g (ix3 (n0 := 32) (n1 := 32) (n2 := 32) (planeOf k) p (placeOf k)) * w (ix2 (n0 := 1024) (n1 := 1024) k n))
          (Ideal.ofBits .f32 0x00000000#32) := by
  refine congrArg (fun z : EReal => max z (Ideal.ofBits .f32 0x00000000#32)) ?_
  refine (Ideal.matmul_plain_apply (M := 32) (K := 1024) (N := 1024) none _ w (constant (F := Ideal) S32x1024 .f32 0x00000000#32) p n).trans ?_
  have hz : constant (F := Ideal) S32x1024 .f32 0x00000000#32 (ix2 (n0 := 32) (n1 := 1024) p n) = (0 : EReal) := Ideal.ofBits_zero_f32
  rw [hz, zero_add]
  exact Finset.sum_congr rfl fun k _ => congrArg (· * _) (side_by_side g p k)

/-- The reference's value at row `i`, column `n`. -/
theorem reference_apply (x w : FVec Ideal S1024x1024 .f32) (i n : Fin 1024) :
    Reference.product (F := Ideal) x w (ix2 (n0 := 1024) (n1 := 1024) i n)
      = max (∑ k : Fin 1024, x (ix2 (n0 := 1024) (n1 := 1024) i k) * w (ix2 (n0 := 1024) (n1 := 1024) k n))
          (Ideal.ofBits .f32 0x00000000#32) := by
  refine congrArg (fun z : EReal => max z (Ideal.ofBits .f32 0x00000000#32)) ?_
  exact StackMember.dotGeneral_plain_apply (m := 1024) (k := 1024) (n := 1024) none x w i n

/-! ## The bridge -/

variable (m : (ℓ : Loc nD τ sig) → Buf (Elt Ideal) ℓ) (ρ : Dev nD → PrngReg)

/-- Row `p` of a device's row block, and column `q` of a device's column block, in the whole array. -/
abbrev wholeAt (c : Dev nD) (p : Fin 32) : Fin 1024 := ⟨c.val * 32 + p.val, by have := c.isLt; have := p.isLt; simp only [nD] at *; omega⟩

/-- What a device gathered is its row block of the whole `x`. -/
theorem gath_apply (x : FVec Ideal S1024x1024 .f32)
    (hx : ∀ c : Dev nD, m ((c : Thread nD τ).loc main_arg0) = Layout.block ⟨2, ![1024, 32]⟩ ⟨2, ![1024, 1024]⟩ 1 32 c x)
    (c : Dev nD) (p : Fin 32) (k : Fin 1024) :
    gath m ρ c (ix3 (n0 := 32) (n1 := 32) (n2 := 32) (planeOf k) p (placeOf k)) = x (ix2 (n0 := 1024) (n1 := 1024) (wholeAt c p) k) := by
  show xstg m ρ (planeOf k) (rowAt c p (placeOf k)) = _
  rw [xstg_eq, hx, Layout.block_apply]
  refine congrArg x (Shape.idx_ext₂ ?_ ?_)
  · show 32 * c.val + p.val = c.val * 32 + p.val
    rw [Nat.mul_comm]
  · show k.val / 32 * 32 + k.val % 32 = k.val
    exact Nat.div_add_mod' k.val 32

/-- If every device holds its column block of `x` and a copy of `w`, its result is its row block of the reference's product. -/
theorem out_block (x w : FVec Ideal S1024x1024 .f32)
    (hx : ∀ c : Dev nD, m ((c : Thread nD τ).loc main_arg0) = Layout.block ⟨2, ![1024, 32]⟩ ⟨2, ![1024, 1024]⟩ 1 32 c x)
    (hw : ∀ c : Dev nD, m ((c : Thread nD τ).loc main_arg1) = w) (c : Dev nD) :
    outAt m ρ c = Layout.block ⟨2, ![32, 1024]⟩ ⟨2, ![1024, 1024]⟩ 0 32 c (Reference.product (F := Ideal) x w) := by
  have hwc : wbuf m ρ c = w := hw c
  have h : ∀ (p : Fin 32) (n : Fin 1024), outAt m ρ c (ix2 (n0 := 32) (n1 := 1024) p n)
      = Reference.product (F := Ideal) x w (ix2 (n0 := 1024) (n1 := 1024) (wholeAt c p) n) := fun p n => by
    refine (kernel_apply (gath m ρ c) (wbuf m ρ c) p n).trans (Eq.trans ?_ (reference_apply x w (wholeAt c p) n).symm)
    refine congrArg (fun z : EReal => max z (Ideal.ofBits .f32 0x00000000#32)) (Finset.sum_congr rfl fun k _ => ?_)
    rw [gath_apply m ρ x hx, hwc]
  funext j
  rw [Layout.block_apply]
  refine (congrArg (outAt m ρ c) (eq_ix2 (n0 := 32) (n1 := 1024) j)).trans ((h (j 0) (j 1)).trans ?_)
  exact congrArg (Reference.product (F := Ideal) x w) (Shape.idx_ext₂ rfl rfl)

end Cert.A2A

end
-- ==== Proof.lean ====
/-
# The claims

Three frames, the idealisation and the value: the run of the kernel on any float values (Proof/Launch.lean), read at the
machine's words and at the exact values, and the value of the exchange (Proof/Value.lean) beside the reference's run
(Proof/Reference.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.A2A

set_option maxRecDepth 65536 in
/-- `Kernel` and `KernelIdeal` are one text: at the machine's words their kernels are one program. -/
theorem kernels_eq : Cert.Kernel.defs₀ (F := Bits) = Cert.KernelIdeal.defs₀ (F := Bits) := by
  refine congrArg Defs.onTc (funext fun l => funext fun x => ?_)
  match l, x with
  | ⟨0, _⟩, (t, s) => rfl

set_option maxRecDepth 65536 in
/-- And so are the programs around them. -/
theorem defs_eq : Cert.Kernel.defs (F := Bits) = Cert.KernelIdeal.defs (F := Bits) :=
  congrArg (Pipeline.defs (Cert.KernelIdeal.pcfgs (F := Bits))) kernels_eq

/-- What the run leaves, for the frames: both arguments as they were, every counter at zero. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) {D} (h : D = Cert.KernelIdeal.defs (F := F)) :
    θ_run D (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  subst h
  exact (θ_run (Cert.KernelIdeal.defs (F := F)) _ _).mono
    (fun _ h => ⟨fun c => ⟨((h.1 c).1 (0 : Fin 2)).trans (finalA_x m ρ c), (h.1 c).2⟩, h.2⟩) (run_main m ρ)

set_option maxRecDepth 65536 in
/-- The kernel's frame, at the machine's words. -/
theorem frame_kernel : Cert.quiescent_Kernel := fun m ρ _ => frame_run (F := Bits) m ρ defs_eq

/-- The ideal kernel's frame, from the same run. -/
theorem frame_ideal : Cert.quiescent_KernelIdeal := fun m ρ _ => frame_run (F := Ideal) m ρ rfl

/-- The reference's frame: its arguments are not written, and it declares no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Reference.run_main (F := Ideal) m ρ)

/-- The value: each device's result is its row block of what the reference computes of the whole arrays. -/
theorem value : Cert.algebraic_KernelIdeal_ReferenceIdeal := fun m ρ m' ρ' _ hagree =>
  ⟨Reference.product (F := Ideal) (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run (Cert.KernelIdeal.defs (F := Ideal)) _ _).mono
      (fun _ h c => ⟨((h.1 c).1 (1 : Fin 2)).trans ((finalA_out m ρ c).trans
          (out_block m ρ _ _ (fun d => (hagree d).1) (fun d => (hagree d).2) c)),
        ((h.1 c).1 (0 : Fin 2)).trans (finalA_x m ρ c), (h.1 c).2⟩) (run_main (F := Ideal) m ρ),
    (θ_run (Cert.ReferenceIdeal.defs (F := Ideal)) _ _).mono (fun _ h => h 0) (Reference.run_main (F := Ideal) m' ρ')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
